-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_products_total_in_range [hKernelIdeal : Cert.KernelIdeal.Facts] [hReferenceIdeal : Cert.ReferenceIdeal.Facts] [hOn_products_total_in_range : Cert.On_products_total_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 2048, 5120]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v4) i = v0 c i)
          ∧ (∀ i : (⟨3, ![3, 2048, 13824]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v5) i = v1 c i)
          ∧ (∀ i : (⟨3, ![3, 2048, 1]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v6) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 2048, 5120]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v25) i = v0 c i)
          ∧ (∀ i : (⟨3, ![3, 2048, 13824]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v27) i = v1 c i)
          ∧ (∀ i : (⟨3, ![3, 2048, 1]⟩ : Shape).Idx, (Cert.On_products_total_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v12) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_products_total_in_range : Cert.On_products_total_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_products_total_in_range (hKernelIdeal := hKernelIdeal) (hReferenceIdeal := hReferenceIdeal) (hOn_products_total_in_range := hOn_products_total_in_range)
-- ==== On_products_total_in_range.lean ====
abbrev S3x2048x13824 : Shape := ⟨3, ![3, 2048, 13824]⟩
abbrev S13824x5120 : Shape := ⟨2, ![13824, 5120]⟩
abbrev S5120 : Shape := ⟨1, ![5120]⟩
abbrev S128x128 : Shape := ⟨2, ![128, 128]⟩
abbrev S3x2048x108x128x1 : Shape := ⟨5, ![3, 2048, 108, 128, 1]⟩
abbrev S1x1x1x128x128 : Shape := ⟨5, ![1, 1, 1, 128, 128]⟩
abbrev S3x2048x108x128x128 : Shape := ⟨5, ![3, 2048, 108, 128, 128]⟩
abbrev S_ : Shape := ⟨0, ![]⟩
abbrev S3x2048x108x128 : Shape := ⟨4, ![3, 2048, 108, 128]⟩
abbrev S3x2048 : Shape := ⟨2, ![3, 2048]⟩
abbrev S3x2048x1 : Shape := ⟨3, ![3, 2048, 1]⟩
abbrev S3x2048x5120 : Shape := ⟨3, ![3, 2048, 5120]⟩

class Facts : Prop where
  bitsLt_bf16_f32 : FTy.bits .bf16 < FTy.bits .f32
  shapeCasts_S3x2048x13824_S3x2048x108x128x1 : S3x2048x13824.ShapeCasts S3x2048x108x128x1
  bcast_S128x128_S1x1x1x128x128_3_4 : S128x128.BroadcastsInDim S1x1x1x128x128 (![3, 4] : Fin 2 → Fin S1x1x1x128x128.rank)
  bcast_S3x2048x108x128x1_S3x2048x108x128x128_0_1_2_3_4 : S3x2048x108x128x1.BroadcastsInDim S3x2048x108x128x128 (![0, 1, 2, 3, 4] : Fin 5 → Fin S3x2048x108x128x128.rank)
  bcast_S1x1x1x128x128_S3x2048x108x128x128_0_1_2_3_4 : S1x1x1x128x128.BroadcastsInDim S3x2048x108x128x128 (![0, 1, 2, 3, 4] : Fin 5 → Fin S3x2048x108x128x128.rank)
  reducesTo_S3x2048x108x128x128_S3x2048x108x128_d3 : S3x2048x108x128x128.ReducesTo [3] S3x2048x108x128
  h_S_ : 0 < S_.numel
  shapeCasts_S3x2048x108x128_S3x2048x13824 : S3x2048x108x128.ShapeCasts S3x2048x13824
  reducesTo_S3x2048x13824_S3x2048_d2 : S3x2048x13824.ReducesTo [2] S3x2048
  bcast_S3x2048_S3x2048x1_0_1 : S3x2048.BroadcastsInDim S3x2048x1 (![0, 1] : Fin 2 → Fin S3x2048x1.rank)
  bcast_S_S3x2048x1 : S_.BroadcastsInDim S3x2048x1 (![] : Fin 0 → Fin S3x2048x1.rank)
  bcast_S3x2048x1_S3x2048x13824_0_1_2 : S3x2048x1.BroadcastsInDim S3x2048x13824 (![0, 1, 2] : Fin 3 → Fin S3x2048x13824.rank)
  bcast_S_S3x2048x13824 : S_.BroadcastsInDim S3x2048x13824 (![] : Fin 0 → Fin S3x2048x13824.rank)
  natLt_8_32 : 8 < 32
  bcast_S_S3x2048x5120 : S_.BroadcastsInDim S3x2048x5120 (![] : Fin 0 → Fin S3x2048x5120.rank)
  dot_S3x2048x13824_S13824x5120_S3x2048x5120_2_0_01_1_n_n_wf : DotDims.WF S3x2048x13824 S13824x5120 S3x2048x5120 [2] [0] [0, 1] [1] [] []

variable [Facts]

def dot_S3x2048x13824_S13824x5120_S3x2048x5120_2_0_01_1_n_n : DotDims S3x2048x13824 S13824x5120 S3x2048x5120 where
  lhsContracting := [2]
  rhsContracting := [0]
  lhsNonContracting := [0, 1]
  rhsNonContracting := [1]
  lhsBatch := []
  rhsBatch := []
  wf := dot_S3x2048x13824_S13824x5120_S3x2048x5120_2_0_01_1_n_n_wf

noncomputable abbrev lit0t0_0 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_1 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_2 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_3 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_4 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_5 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_6 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_7 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_8 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_9 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_10 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_11 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_12 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_13 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_14 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_15 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_16 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_17 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_18 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_19 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_20 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_21 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_22 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_23 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_24 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_25 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_26 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_27 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_28 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_29 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_30 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_31 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_32 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_33 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_34 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_35 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_36 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_37 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_38 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_39 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_40 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_41 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_42 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_43 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_44 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_45 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_46 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_47 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_48 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_49 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_50 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_51 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_52 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_53 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_54 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_55 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_56 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0x3DB5#16
  | 65 => 0x3DB5#16
  | 66 => 0x3DB5#16
  | 67 => 0x3DB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_57 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0x3DB5#16
  | 65 => 0xBDB5#16
  | 66 => 0x3DB5#16
  | 67 => 0xBDB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_58 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0x3DB5#16
  | 65 => 0x3DB5#16
  | 66 => 0xBDB5#16
  | 67 => 0xBDB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_59 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0x3DB5#16
  | 65 => 0xBDB5#16
  | 66 => 0xBDB5#16
  | 67 => 0x3DB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_60 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0x3DB5#16
  | 65 => 0x3DB5#16
  | 66 => 0x3DB5#16
  | 67 => 0x3DB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_61 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0x3DB5#16
  | 65 => 0xBDB5#16
  | 66 => 0x3DB5#16
  | 67 => 0xBDB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_62 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0x3DB5#16
  | 65 => 0x3DB5#16
  | 66 => 0xBDB5#16
  | 67 => 0xBDB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_63 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0x3DB5#16
  | 65 => 0xBDB5#16
  | 66 => 0xBDB5#16
  | 67 => 0x3DB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_64 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_65 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_66 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_67 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_68 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_69 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_70 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_71 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_72 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_73 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_74 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_75 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_76 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_77 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_78 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_79 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_80 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_81 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_82 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_83 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_84 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_85 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_86 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_87 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_88 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0x3DB5#16
  | 33 => 0x3DB5#16
  | 34 => 0x3DB5#16
  | 35 => 0x3DB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0xBDB5#16
  | 97 => 0xBDB5#16
  | 98 => 0xBDB5#16
  | 99 => 0xBDB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_89 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0x3DB5#16
  | 33 => 0xBDB5#16
  | 34 => 0x3DB5#16
  | 35 => 0xBDB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0xBDB5#16
  | 97 => 0x3DB5#16
  | 98 => 0xBDB5#16
  | 99 => 0x3DB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_90 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0x3DB5#16
  | 33 => 0x3DB5#16
  | 34 => 0xBDB5#16
  | 35 => 0xBDB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0xBDB5#16
  | 97 => 0xBDB5#16
  | 98 => 0x3DB5#16
  | 99 => 0x3DB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_91 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0x3DB5#16
  | 33 => 0xBDB5#16
  | 34 => 0xBDB5#16
  | 35 => 0x3DB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0xBDB5#16
  | 97 => 0x3DB5#16
  | 98 => 0x3DB5#16
  | 99 => 0xBDB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_92 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0x3DB5#16
  | 33 => 0x3DB5#16
  | 34 => 0x3DB5#16
  | 35 => 0x3DB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0xBDB5#16
  | 97 => 0xBDB5#16
  | 98 => 0xBDB5#16
  | 99 => 0xBDB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_93 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0x3DB5#16
  | 33 => 0xBDB5#16
  | 34 => 0x3DB5#16
  | 35 => 0xBDB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0xBDB5#16
  | 97 => 0x3DB5#16
  | 98 => 0xBDB5#16
  | 99 => 0x3DB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_94 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0x3DB5#16
  | 33 => 0x3DB5#16
  | 34 => 0xBDB5#16
  | 35 => 0xBDB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0xBDB5#16
  | 97 => 0xBDB5#16
  | 98 => 0x3DB5#16
  | 99 => 0x3DB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_95 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0x3DB5#16
  | 33 => 0xBDB5#16
  | 34 => 0xBDB5#16
  | 35 => 0x3DB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0xBDB5#16
  | 97 => 0x3DB5#16
  | 98 => 0x3DB5#16
  | 99 => 0xBDB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_96 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_97 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_98 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_99 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_100 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_101 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_102 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_103 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t0_104 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0x3DB5#16
  | 17 => 0x3DB5#16
  | 18 => 0x3DB5#16
  | 19 => 0x3DB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0xBDB5#16
  | 49 => 0xBDB5#16
  | 50 => 0xBDB5#16
  | 51 => 0xBDB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0xBDB5#16
  | 81 => 0xBDB5#16
  | 82 => 0xBDB5#16
  | 83 => 0xBDB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0x3DB5#16
  | 113 => 0x3DB5#16
  | 114 => 0x3DB5#16
  | 115 => 0x3DB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_105 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0x3DB5#16
  | 17 => 0xBDB5#16
  | 18 => 0x3DB5#16
  | 19 => 0xBDB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0xBDB5#16
  | 49 => 0x3DB5#16
  | 50 => 0xBDB5#16
  | 51 => 0x3DB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0xBDB5#16
  | 81 => 0x3DB5#16
  | 82 => 0xBDB5#16
  | 83 => 0x3DB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0x3DB5#16
  | 113 => 0xBDB5#16
  | 114 => 0x3DB5#16
  | 115 => 0xBDB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_106 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0x3DB5#16
  | 17 => 0x3DB5#16
  | 18 => 0xBDB5#16
  | 19 => 0xBDB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0xBDB5#16
  | 49 => 0xBDB5#16
  | 50 => 0x3DB5#16
  | 51 => 0x3DB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0xBDB5#16
  | 81 => 0xBDB5#16
  | 82 => 0x3DB5#16
  | 83 => 0x3DB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0x3DB5#16
  | 113 => 0x3DB5#16
  | 114 => 0xBDB5#16
  | 115 => 0xBDB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_107 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0x3DB5#16
  | 17 => 0xBDB5#16
  | 18 => 0xBDB5#16
  | 19 => 0x3DB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0xBDB5#16
  | 49 => 0x3DB5#16
  | 50 => 0x3DB5#16
  | 51 => 0xBDB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0xBDB5#16
  | 81 => 0x3DB5#16
  | 82 => 0x3DB5#16
  | 83 => 0xBDB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0x3DB5#16
  | 113 => 0xBDB5#16
  | 114 => 0xBDB5#16
  | 115 => 0x3DB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_108 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0x3DB5#16
  | 17 => 0x3DB5#16
  | 18 => 0x3DB5#16
  | 19 => 0x3DB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0xBDB5#16
  | 49 => 0xBDB5#16
  | 50 => 0xBDB5#16
  | 51 => 0xBDB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0xBDB5#16
  | 81 => 0xBDB5#16
  | 82 => 0xBDB5#16
  | 83 => 0xBDB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0x3DB5#16
  | 113 => 0x3DB5#16
  | 114 => 0x3DB5#16
  | 115 => 0x3DB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_109 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0x3DB5#16
  | 17 => 0xBDB5#16
  | 18 => 0x3DB5#16
  | 19 => 0xBDB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0xBDB5#16
  | 49 => 0x3DB5#16
  | 50 => 0xBDB5#16
  | 51 => 0x3DB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0xBDB5#16
  | 81 => 0x3DB5#16
  | 82 => 0xBDB5#16
  | 83 => 0x3DB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0x3DB5#16
  | 113 => 0xBDB5#16
  | 114 => 0x3DB5#16
  | 115 => 0xBDB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_110 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0x3DB5#16
  | 17 => 0x3DB5#16
  | 18 => 0xBDB5#16
  | 19 => 0xBDB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0xBDB5#16
  | 49 => 0xBDB5#16
  | 50 => 0x3DB5#16
  | 51 => 0x3DB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0xBDB5#16
  | 81 => 0xBDB5#16
  | 82 => 0x3DB5#16
  | 83 => 0x3DB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0x3DB5#16
  | 113 => 0x3DB5#16
  | 114 => 0xBDB5#16
  | 115 => 0xBDB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_111 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0x3DB5#16
  | 17 => 0xBDB5#16
  | 18 => 0xBDB5#16
  | 19 => 0x3DB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0xBDB5#16
  | 49 => 0x3DB5#16
  | 50 => 0x3DB5#16
  | 51 => 0xBDB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0xBDB5#16
  | 81 => 0x3DB5#16
  | 82 => 0x3DB5#16
  | 83 => 0xBDB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0x3DB5#16
  | 113 => 0xBDB5#16
  | 114 => 0xBDB5#16
  | 115 => 0x3DB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_112 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0x3DB5#16
  | 9 => 0x3DB5#16
  | 10 => 0x3DB5#16
  | 11 => 0x3DB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0xBDB5#16
  | 25 => 0xBDB5#16
  | 26 => 0xBDB5#16
  | 27 => 0xBDB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0xBDB5#16
  | 41 => 0xBDB5#16
  | 42 => 0xBDB5#16
  | 43 => 0xBDB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0x3DB5#16
  | 57 => 0x3DB5#16
  | 58 => 0x3DB5#16
  | 59 => 0x3DB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0xBDB5#16
  | 73 => 0xBDB5#16
  | 74 => 0xBDB5#16
  | 75 => 0xBDB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0x3DB5#16
  | 89 => 0x3DB5#16
  | 90 => 0x3DB5#16
  | 91 => 0x3DB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0x3DB5#16
  | 105 => 0x3DB5#16
  | 106 => 0x3DB5#16
  | 107 => 0x3DB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0xBDB5#16
  | 121 => 0xBDB5#16
  | 122 => 0xBDB5#16
  | 123 => 0xBDB5#16
  | 124 => 0xBDB5#16
  | 125 => 0xBDB5#16
  | 126 => 0xBDB5#16
  | 127 => 0xBDB5#16
  | _ => 0#16

noncomputable abbrev lit0t0_113 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0x3DB5#16
  | 9 => 0xBDB5#16
  | 10 => 0x3DB5#16
  | 11 => 0xBDB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0xBDB5#16
  | 25 => 0x3DB5#16
  | 26 => 0xBDB5#16
  | 27 => 0x3DB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0xBDB5#16
  | 41 => 0x3DB5#16
  | 42 => 0xBDB5#16
  | 43 => 0x3DB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0x3DB5#16
  | 57 => 0xBDB5#16
  | 58 => 0x3DB5#16
  | 59 => 0xBDB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0xBDB5#16
  | 73 => 0x3DB5#16
  | 74 => 0xBDB5#16
  | 75 => 0x3DB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0x3DB5#16
  | 89 => 0xBDB5#16
  | 90 => 0x3DB5#16
  | 91 => 0xBDB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0x3DB5#16
  | 105 => 0xBDB5#16
  | 106 => 0x3DB5#16
  | 107 => 0xBDB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0xBDB5#16
  | 121 => 0x3DB5#16
  | 122 => 0xBDB5#16
  | 123 => 0x3DB5#16
  | 124 => 0xBDB5#16
  | 125 => 0x3DB5#16
  | 126 => 0xBDB5#16
  | 127 => 0x3DB5#16
  | _ => 0#16

noncomputable abbrev lit0t0_114 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0x3DB5#16
  | 9 => 0x3DB5#16
  | 10 => 0xBDB5#16
  | 11 => 0xBDB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0xBDB5#16
  | 25 => 0xBDB5#16
  | 26 => 0x3DB5#16
  | 27 => 0x3DB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0xBDB5#16
  | 41 => 0xBDB5#16
  | 42 => 0x3DB5#16
  | 43 => 0x3DB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0x3DB5#16
  | 57 => 0x3DB5#16
  | 58 => 0xBDB5#16
  | 59 => 0xBDB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0xBDB5#16
  | 73 => 0xBDB5#16
  | 74 => 0x3DB5#16
  | 75 => 0x3DB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0x3DB5#16
  | 89 => 0x3DB5#16
  | 90 => 0xBDB5#16
  | 91 => 0xBDB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0x3DB5#16
  | 105 => 0x3DB5#16
  | 106 => 0xBDB5#16
  | 107 => 0xBDB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0xBDB5#16
  | 121 => 0xBDB5#16
  | 122 => 0x3DB5#16
  | 123 => 0x3DB5#16
  | 124 => 0xBDB5#16
  | 125 => 0xBDB5#16
  | 126 => 0x3DB5#16
  | 127 => 0x3DB5#16
  | _ => 0#16

noncomputable abbrev lit0t0_115 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0x3DB5#16
  | 9 => 0xBDB5#16
  | 10 => 0xBDB5#16
  | 11 => 0x3DB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0xBDB5#16
  | 25 => 0x3DB5#16
  | 26 => 0x3DB5#16
  | 27 => 0xBDB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0xBDB5#16
  | 41 => 0x3DB5#16
  | 42 => 0x3DB5#16
  | 43 => 0xBDB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0x3DB5#16
  | 57 => 0xBDB5#16
  | 58 => 0xBDB5#16
  | 59 => 0x3DB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0xBDB5#16
  | 73 => 0x3DB5#16
  | 74 => 0x3DB5#16
  | 75 => 0xBDB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0x3DB5#16
  | 89 => 0xBDB5#16
  | 90 => 0xBDB5#16
  | 91 => 0x3DB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0x3DB5#16
  | 105 => 0xBDB5#16
  | 106 => 0xBDB5#16
  | 107 => 0x3DB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0xBDB5#16
  | 121 => 0x3DB5#16
  | 122 => 0x3DB5#16
  | 123 => 0xBDB5#16
  | 124 => 0xBDB5#16
  | 125 => 0x3DB5#16
  | 126 => 0x3DB5#16
  | 127 => 0xBDB5#16
  | _ => 0#16

noncomputable abbrev lit0t0_116 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0x3DB5#16
  | 9 => 0x3DB5#16
  | 10 => 0x3DB5#16
  | 11 => 0x3DB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0xBDB5#16
  | 25 => 0xBDB5#16
  | 26 => 0xBDB5#16
  | 27 => 0xBDB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0xBDB5#16
  | 41 => 0xBDB5#16
  | 42 => 0xBDB5#16
  | 43 => 0xBDB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0x3DB5#16
  | 57 => 0x3DB5#16
  | 58 => 0x3DB5#16
  | 59 => 0x3DB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0xBDB5#16
  | 73 => 0xBDB5#16
  | 74 => 0xBDB5#16
  | 75 => 0xBDB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0x3DB5#16
  | 89 => 0x3DB5#16
  | 90 => 0x3DB5#16
  | 91 => 0x3DB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0x3DB5#16
  | 105 => 0x3DB5#16
  | 106 => 0x3DB5#16
  | 107 => 0x3DB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0xBDB5#16
  | 121 => 0xBDB5#16
  | 122 => 0xBDB5#16
  | 123 => 0xBDB5#16
  | 124 => 0x3DB5#16
  | 125 => 0x3DB5#16
  | 126 => 0x3DB5#16
  | 127 => 0x3DB5#16
  | _ => 0#16

noncomputable abbrev lit0t0_117 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0x3DB5#16
  | 9 => 0xBDB5#16
  | 10 => 0x3DB5#16
  | 11 => 0xBDB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0xBDB5#16
  | 25 => 0x3DB5#16
  | 26 => 0xBDB5#16
  | 27 => 0x3DB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0xBDB5#16
  | 41 => 0x3DB5#16
  | 42 => 0xBDB5#16
  | 43 => 0x3DB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0x3DB5#16
  | 57 => 0xBDB5#16
  | 58 => 0x3DB5#16
  | 59 => 0xBDB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0xBDB5#16
  | 73 => 0x3DB5#16
  | 74 => 0xBDB5#16
  | 75 => 0x3DB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0x3DB5#16
  | 89 => 0xBDB5#16
  | 90 => 0x3DB5#16
  | 91 => 0xBDB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0x3DB5#16
  | 105 => 0xBDB5#16
  | 106 => 0x3DB5#16
  | 107 => 0xBDB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0xBDB5#16
  | 121 => 0x3DB5#16
  | 122 => 0xBDB5#16
  | 123 => 0x3DB5#16
  | 124 => 0x3DB5#16
  | 125 => 0xBDB5#16
  | 126 => 0x3DB5#16
  | 127 => 0xBDB5#16
  | _ => 0#16

noncomputable abbrev lit0t0_118 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0x3DB5#16
  | 9 => 0x3DB5#16
  | 10 => 0xBDB5#16
  | 11 => 0xBDB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0xBDB5#16
  | 25 => 0xBDB5#16
  | 26 => 0x3DB5#16
  | 27 => 0x3DB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0xBDB5#16
  | 41 => 0xBDB5#16
  | 42 => 0x3DB5#16
  | 43 => 0x3DB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0x3DB5#16
  | 57 => 0x3DB5#16
  | 58 => 0xBDB5#16
  | 59 => 0xBDB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0xBDB5#16
  | 73 => 0xBDB5#16
  | 74 => 0x3DB5#16
  | 75 => 0x3DB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0x3DB5#16
  | 89 => 0x3DB5#16
  | 90 => 0xBDB5#16
  | 91 => 0xBDB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0x3DB5#16
  | 105 => 0x3DB5#16
  | 106 => 0xBDB5#16
  | 107 => 0xBDB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0xBDB5#16
  | 121 => 0xBDB5#16
  | 122 => 0x3DB5#16
  | 123 => 0x3DB5#16
  | 124 => 0x3DB5#16
  | 125 => 0x3DB5#16
  | 126 => 0xBDB5#16
  | 127 => 0xBDB5#16
  | _ => 0#16

noncomputable abbrev lit0t0_119 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0x3DB5#16
  | 9 => 0xBDB5#16
  | 10 => 0xBDB5#16
  | 11 => 0x3DB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0xBDB5#16
  | 25 => 0x3DB5#16
  | 26 => 0x3DB5#16
  | 27 => 0xBDB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0xBDB5#16
  | 41 => 0x3DB5#16
  | 42 => 0x3DB5#16
  | 43 => 0xBDB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0x3DB5#16
  | 57 => 0xBDB5#16
  | 58 => 0xBDB5#16
  | 59 => 0x3DB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0xBDB5#16
  | 73 => 0x3DB5#16
  | 74 => 0x3DB5#16
  | 75 => 0xBDB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0x3DB5#16
  | 89 => 0xBDB5#16
  | 90 => 0xBDB5#16
  | 91 => 0x3DB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0x3DB5#16
  | 105 => 0xBDB5#16
  | 106 => 0xBDB5#16
  | 107 => 0x3DB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0xBDB5#16
  | 121 => 0x3DB5#16
  | 122 => 0x3DB5#16
  | 123 => 0xBDB5#16
  | 124 => 0x3DB5#16
  | 125 => 0xBDB5#16
  | 126 => 0xBDB5#16
  | 127 => 0x3DB5#16
  | _ => 0#16

noncomputable abbrev lit0t0_120 (i : Nat) : BitVec 16 := match i % 128 with
  | 0 => 0x3DB5#16
  | 1 => 0x3DB5#16
  | 2 => 0x3DB5#16
  | 3 => 0x3DB5#16
  | 4 => 0x3DB5#16
  | 5 => 0x3DB5#16
  | 6 => 0x3DB5#16
  | 7 => 0x3DB5#16
  | 8 => 0xBDB5#16
  | 9 => 0xBDB5#16
  | 10 => 0xBDB5#16
  | 11 => 0xBDB5#16
  | 12 => 0xBDB5#16
  | 13 => 0xBDB5#16
  | 14 => 0xBDB5#16
  | 15 => 0xBDB5#16
  | 16 => 0xBDB5#16
  | 17 => 0xBDB5#16
  | 18 => 0xBDB5#16
  | 19 => 0xBDB5#16
  | 20 => 0xBDB5#16
  | 21 => 0xBDB5#16
  | 22 => 0xBDB5#16
  | 23 => 0xBDB5#16
  | 24 => 0x3DB5#16
  | 25 => 0x3DB5#16
  | 26 => 0x3DB5#16
  | 27 => 0x3DB5#16
  | 28 => 0x3DB5#16
  | 29 => 0x3DB5#16
  | 30 => 0x3DB5#16
  | 31 => 0x3DB5#16
  | 32 => 0xBDB5#16
  | 33 => 0xBDB5#16
  | 34 => 0xBDB5#16
  | 35 => 0xBDB5#16
  | 36 => 0xBDB5#16
  | 37 => 0xBDB5#16
  | 38 => 0xBDB5#16
  | 39 => 0xBDB5#16
  | 40 => 0x3DB5#16
  | 41 => 0x3DB5#16
  | 42 => 0x3DB5#16
  | 43 => 0x3DB5#16
  | 44 => 0x3DB5#16
  | 45 => 0x3DB5#16
  | 46 => 0x3DB5#16
  | 47 => 0x3DB5#16
  | 48 => 0x3DB5#16
  | 49 => 0x3DB5#16
  | 50 => 0x3DB5#16
  | 51 => 0x3DB5#16
  | 52 => 0x3DB5#16
  | 53 => 0x3DB5#16
  | 54 => 0x3DB5#16
  | 55 => 0x3DB5#16
  | 56 => 0xBDB5#16
  | 57 => 0xBDB5#16
  | 58 => 0xBDB5#16
  | 59 => 0xBDB5#16
  | 60 => 0xBDB5#16
  | 61 => 0xBDB5#16
  | 62 => 0xBDB5#16
  | 63 => 0xBDB5#16
  | 64 => 0xBDB5#16
  | 65 => 0xBDB5#16
  | 66 => 0xBDB5#16
  | 67 => 0xBDB5#16
  | 68 => 0xBDB5#16
  | 69 => 0xBDB5#16
  | 70 => 0xBDB5#16
  | 71 => 0xBDB5#16
  | 72 => 0x3DB5#16
  | 73 => 0x3DB5#16
  | 74 => 0x3DB5#16
  | 75 => 0x3DB5#16
  | 76 => 0x3DB5#16
  | 77 => 0x3DB5#16
  | 78 => 0x3DB5#16
  | 79 => 0x3DB5#16
  | 80 => 0x3DB5#16
  | 81 => 0x3DB5#16
  | 82 => 0x3DB5#16
  | 83 => 0x3DB5#16
  | 84 => 0x3DB5#16
  | 85 => 0x3DB5#16
  | 86 => 0x3DB5#16
  | 87 => 0x3DB5#16
  | 88 => 0xBDB5#16
  | 89 => 0xBDB5#16
  | 90 => 0xBDB5#16
  | 91 => 0xBDB5#16
  | 92 => 0xBDB5#16
  | 93 => 0xBDB5#16
  | 94 => 0xBDB5#16
  | 95 => 0xBDB5#16
  | 96 => 0x3DB5#16
  | 97 => 0x3DB5#16
  | 98 => 0x3DB5#16
  | 99 => 0x3DB5#16
  | 100 => 0x3DB5#16
  | 101 => 0x3DB5#16
  | 102 => 0x3DB5#16
  | 103 => 0x3DB5#16
  | 104 => 0xBDB5#16
  | 105 => 0xBDB5#16
  | 106 => 0xBDB5#16
  | 107 => 0xBDB5#16
  | 108 => 0xBDB5#16
  | 109 => 0xBDB5#16
  | 110 => 0xBDB5#16
  | 111 => 0xBDB5#16
  | 112 => 0xBDB5#16
  | 113 => 0xBDB5#16
  | 114 => 0xBDB5#16
  | 115 => 0xBDB5#16
  | 116 => 0xBDB5#16
  | 117 => 0xBDB5#16
  | 118 => 0xBDB5#16
  | 119 => 0xBDB5#16
  | 120 => 0x3DB5#16
  | 121 => 0x3DB5#16
  | 122 => 0x3DB5#16
  | 123 => 0x3DB5#16
  | 124 => 0x3DB5#16
  | 125 => 0x3DB5#16
  | 126 => 0x3DB5#16
  | 127 => 0x3DB5#16
  | _ => 0#16

noncomputable abbrev lit0t0_121 (i : Nat) : BitVec 16 := match i % 128 with
  | 0 => 0x3DB5#16
  | 1 => 0xBDB5#16
  | 2 => 0x3DB5#16
  | 3 => 0xBDB5#16
  | 4 => 0x3DB5#16
  | 5 => 0xBDB5#16
  | 6 => 0x3DB5#16
  | 7 => 0xBDB5#16
  | 8 => 0xBDB5#16
  | 9 => 0x3DB5#16
  | 10 => 0xBDB5#16
  | 11 => 0x3DB5#16
  | 12 => 0xBDB5#16
  | 13 => 0x3DB5#16
  | 14 => 0xBDB5#16
  | 15 => 0x3DB5#16
  | 16 => 0xBDB5#16
  | 17 => 0x3DB5#16
  | 18 => 0xBDB5#16
  | 19 => 0x3DB5#16
  | 20 => 0xBDB5#16
  | 21 => 0x3DB5#16
  | 22 => 0xBDB5#16
  | 23 => 0x3DB5#16
  | 24 => 0x3DB5#16
  | 25 => 0xBDB5#16
  | 26 => 0x3DB5#16
  | 27 => 0xBDB5#16
  | 28 => 0x3DB5#16
  | 29 => 0xBDB5#16
  | 30 => 0x3DB5#16
  | 31 => 0xBDB5#16
  | 32 => 0xBDB5#16
  | 33 => 0x3DB5#16
  | 34 => 0xBDB5#16
  | 35 => 0x3DB5#16
  | 36 => 0xBDB5#16
  | 37 => 0x3DB5#16
  | 38 => 0xBDB5#16
  | 39 => 0x3DB5#16
  | 40 => 0x3DB5#16
  | 41 => 0xBDB5#16
  | 42 => 0x3DB5#16
  | 43 => 0xBDB5#16
  | 44 => 0x3DB5#16
  | 45 => 0xBDB5#16
  | 46 => 0x3DB5#16
  | 47 => 0xBDB5#16
  | 48 => 0x3DB5#16
  | 49 => 0xBDB5#16
  | 50 => 0x3DB5#16
  | 51 => 0xBDB5#16
  | 52 => 0x3DB5#16
  | 53 => 0xBDB5#16
  | 54 => 0x3DB5#16
  | 55 => 0xBDB5#16
  | 56 => 0xBDB5#16
  | 57 => 0x3DB5#16
  | 58 => 0xBDB5#16
  | 59 => 0x3DB5#16
  | 60 => 0xBDB5#16
  | 61 => 0x3DB5#16
  | 62 => 0xBDB5#16
  | 63 => 0x3DB5#16
  | 64 => 0xBDB5#16
  | 65 => 0x3DB5#16
  | 66 => 0xBDB5#16
  | 67 => 0x3DB5#16
  | 68 => 0xBDB5#16
  | 69 => 0x3DB5#16
  | 70 => 0xBDB5#16
  | 71 => 0x3DB5#16
  | 72 => 0x3DB5#16
  | 73 => 0xBDB5#16
  | 74 => 0x3DB5#16
  | 75 => 0xBDB5#16
  | 76 => 0x3DB5#16
  | 77 => 0xBDB5#16
  | 78 => 0x3DB5#16
  | 79 => 0xBDB5#16
  | 80 => 0x3DB5#16
  | 81 => 0xBDB5#16
  | 82 => 0x3DB5#16
  | 83 => 0xBDB5#16
  | 84 => 0x3DB5#16
  | 85 => 0xBDB5#16
  | 86 => 0x3DB5#16
  | 87 => 0xBDB5#16
  | 88 => 0xBDB5#16
  | 89 => 0x3DB5#16
  | 90 => 0xBDB5#16
  | 91 => 0x3DB5#16
  | 92 => 0xBDB5#16
  | 93 => 0x3DB5#16
  | 94 => 0xBDB5#16
  | 95 => 0x3DB5#16
  | 96 => 0x3DB5#16
  | 97 => 0xBDB5#16
  | 98 => 0x3DB5#16
  | 99 => 0xBDB5#16
  | 100 => 0x3DB5#16
  | 101 => 0xBDB5#16
  | 102 => 0x3DB5#16
  | 103 => 0xBDB5#16
  | 104 => 0xBDB5#16
  | 105 => 0x3DB5#16
  | 106 => 0xBDB5#16
  | 107 => 0x3DB5#16
  | 108 => 0xBDB5#16
  | 109 => 0x3DB5#16
  | 110 => 0xBDB5#16
  | 111 => 0x3DB5#16
  | 112 => 0xBDB5#16
  | 113 => 0x3DB5#16
  | 114 => 0xBDB5#16
  | 115 => 0x3DB5#16
  | 116 => 0xBDB5#16
  | 117 => 0x3DB5#16
  | 118 => 0xBDB5#16
  | 119 => 0x3DB5#16
  | 120 => 0x3DB5#16
  | 121 => 0xBDB5#16
  | 122 => 0x3DB5#16
  | 123 => 0xBDB5#16
  | 124 => 0x3DB5#16
  | 125 => 0xBDB5#16
  | 126 => 0x3DB5#16
  | 127 => 0xBDB5#16
  | _ => 0#16

noncomputable abbrev lit0t0_122 (i : Nat) : BitVec 16 := match i % 128 with
  | 0 => 0x3DB5#16
  | 1 => 0x3DB5#16
  | 2 => 0xBDB5#16
  | 3 => 0xBDB5#16
  | 4 => 0x3DB5#16
  | 5 => 0x3DB5#16
  | 6 => 0xBDB5#16
  | 7 => 0xBDB5#16
  | 8 => 0xBDB5#16
  | 9 => 0xBDB5#16
  | 10 => 0x3DB5#16
  | 11 => 0x3DB5#16
  | 12 => 0xBDB5#16
  | 13 => 0xBDB5#16
  | 14 => 0x3DB5#16
  | 15 => 0x3DB5#16
  | 16 => 0xBDB5#16
  | 17 => 0xBDB5#16
  | 18 => 0x3DB5#16
  | 19 => 0x3DB5#16
  | 20 => 0xBDB5#16
  | 21 => 0xBDB5#16
  | 22 => 0x3DB5#16
  | 23 => 0x3DB5#16
  | 24 => 0x3DB5#16
  | 25 => 0x3DB5#16
  | 26 => 0xBDB5#16
  | 27 => 0xBDB5#16
  | 28 => 0x3DB5#16
  | 29 => 0x3DB5#16
  | 30 => 0xBDB5#16
  | 31 => 0xBDB5#16
  | 32 => 0xBDB5#16
  | 33 => 0xBDB5#16
  | 34 => 0x3DB5#16
  | 35 => 0x3DB5#16
  | 36 => 0xBDB5#16
  | 37 => 0xBDB5#16
  | 38 => 0x3DB5#16
  | 39 => 0x3DB5#16
  | 40 => 0x3DB5#16
  | 41 => 0x3DB5#16
  | 42 => 0xBDB5#16
  | 43 => 0xBDB5#16
  | 44 => 0x3DB5#16
  | 45 => 0x3DB5#16
  | 46 => 0xBDB5#16
  | 47 => 0xBDB5#16
  | 48 => 0x3DB5#16
  | 49 => 0x3DB5#16
  | 50 => 0xBDB5#16
  | 51 => 0xBDB5#16
  | 52 => 0x3DB5#16
  | 53 => 0x3DB5#16
  | 54 => 0xBDB5#16
  | 55 => 0xBDB5#16
  | 56 => 0xBDB5#16
  | 57 => 0xBDB5#16
  | 58 => 0x3DB5#16
  | 59 => 0x3DB5#16
  | 60 => 0xBDB5#16
  | 61 => 0xBDB5#16
  | 62 => 0x3DB5#16
  | 63 => 0x3DB5#16
  | 64 => 0xBDB5#16
  | 65 => 0xBDB5#16
  | 66 => 0x3DB5#16
  | 67 => 0x3DB5#16
  | 68 => 0xBDB5#16
  | 69 => 0xBDB5#16
  | 70 => 0x3DB5#16
  | 71 => 0x3DB5#16
  | 72 => 0x3DB5#16
  | 73 => 0x3DB5#16
  | 74 => 0xBDB5#16
  | 75 => 0xBDB5#16
  | 76 => 0x3DB5#16
  | 77 => 0x3DB5#16
  | 78 => 0xBDB5#16
  | 79 => 0xBDB5#16
  | 80 => 0x3DB5#16
  | 81 => 0x3DB5#16
  | 82 => 0xBDB5#16
  | 83 => 0xBDB5#16
  | 84 => 0x3DB5#16
  | 85 => 0x3DB5#16
  | 86 => 0xBDB5#16
  | 87 => 0xBDB5#16
  | 88 => 0xBDB5#16
  | 89 => 0xBDB5#16
  | 90 => 0x3DB5#16
  | 91 => 0x3DB5#16
  | 92 => 0xBDB5#16
  | 93 => 0xBDB5#16
  | 94 => 0x3DB5#16
  | 95 => 0x3DB5#16
  | 96 => 0x3DB5#16
  | 97 => 0x3DB5#16
  | 98 => 0xBDB5#16
  | 99 => 0xBDB5#16
  | 100 => 0x3DB5#16
  | 101 => 0x3DB5#16
  | 102 => 0xBDB5#16
  | 103 => 0xBDB5#16
  | 104 => 0xBDB5#16
  | 105 => 0xBDB5#16
  | 106 => 0x3DB5#16
  | 107 => 0x3DB5#16
  | 108 => 0xBDB5#16
  | 109 => 0xBDB5#16
  | 110 => 0x3DB5#16
  | 111 => 0x3DB5#16
  | 112 => 0xBDB5#16
  | 113 => 0xBDB5#16
  | 114 => 0x3DB5#16
  | 115 => 0x3DB5#16
  | 116 => 0xBDB5#16
  | 117 => 0xBDB5#16
  | 118 => 0x3DB5#16
  | 119 => 0x3DB5#16
  | 120 => 0x3DB5#16
  | 121 => 0x3DB5#16
  | 122 => 0xBDB5#16
  | 123 => 0xBDB5#16
  | 124 => 0x3DB5#16
  | 125 => 0x3DB5#16
  | 126 => 0xBDB5#16
  | 127 => 0xBDB5#16
  | _ => 0#16

noncomputable abbrev lit0t0_123 (i : Nat) : BitVec 16 := match i % 128 with
  | 0 => 0x3DB5#16
  | 1 => 0xBDB5#16
  | 2 => 0xBDB5#16
  | 3 => 0x3DB5#16
  | 4 => 0x3DB5#16
  | 5 => 0xBDB5#16
  | 6 => 0xBDB5#16
  | 7 => 0x3DB5#16
  | 8 => 0xBDB5#16
  | 9 => 0x3DB5#16
  | 10 => 0x3DB5#16
  | 11 => 0xBDB5#16
  | 12 => 0xBDB5#16
  | 13 => 0x3DB5#16
  | 14 => 0x3DB5#16
  | 15 => 0xBDB5#16
  | 16 => 0xBDB5#16
  | 17 => 0x3DB5#16
  | 18 => 0x3DB5#16
  | 19 => 0xBDB5#16
  | 20 => 0xBDB5#16
  | 21 => 0x3DB5#16
  | 22 => 0x3DB5#16
  | 23 => 0xBDB5#16
  | 24 => 0x3DB5#16
  | 25 => 0xBDB5#16
  | 26 => 0xBDB5#16
  | 27 => 0x3DB5#16
  | 28 => 0x3DB5#16
  | 29 => 0xBDB5#16
  | 30 => 0xBDB5#16
  | 31 => 0x3DB5#16
  | 32 => 0xBDB5#16
  | 33 => 0x3DB5#16
  | 34 => 0x3DB5#16
  | 35 => 0xBDB5#16
  | 36 => 0xBDB5#16
  | 37 => 0x3DB5#16
  | 38 => 0x3DB5#16
  | 39 => 0xBDB5#16
  | 40 => 0x3DB5#16
  | 41 => 0xBDB5#16
  | 42 => 0xBDB5#16
  | 43 => 0x3DB5#16
  | 44 => 0x3DB5#16
  | 45 => 0xBDB5#16
  | 46 => 0xBDB5#16
  | 47 => 0x3DB5#16
  | 48 => 0x3DB5#16
  | 49 => 0xBDB5#16
  | 50 => 0xBDB5#16
  | 51 => 0x3DB5#16
  | 52 => 0x3DB5#16
  | 53 => 0xBDB5#16
  | 54 => 0xBDB5#16
  | 55 => 0x3DB5#16
  | 56 => 0xBDB5#16
  | 57 => 0x3DB5#16
  | 58 => 0x3DB5#16
  | 59 => 0xBDB5#16
  | 60 => 0xBDB5#16
  | 61 => 0x3DB5#16
  | 62 => 0x3DB5#16
  | 63 => 0xBDB5#16
  | 64 => 0xBDB5#16
  | 65 => 0x3DB5#16
  | 66 => 0x3DB5#16
  | 67 => 0xBDB5#16
  | 68 => 0xBDB5#16
  | 69 => 0x3DB5#16
  | 70 => 0x3DB5#16
  | 71 => 0xBDB5#16
  | 72 => 0x3DB5#16
  | 73 => 0xBDB5#16
  | 74 => 0xBDB5#16
  | 75 => 0x3DB5#16
  | 76 => 0x3DB5#16
  | 77 => 0xBDB5#16
  | 78 => 0xBDB5#16
  | 79 => 0x3DB5#16
  | 80 => 0x3DB5#16
  | 81 => 0xBDB5#16
  | 82 => 0xBDB5#16
  | 83 => 0x3DB5#16
  | 84 => 0x3DB5#16
  | 85 => 0xBDB5#16
  | 86 => 0xBDB5#16
  | 87 => 0x3DB5#16
  | 88 => 0xBDB5#16
  | 89 => 0x3DB5#16
  | 90 => 0x3DB5#16
  | 91 => 0xBDB5#16
  | 92 => 0xBDB5#16
  | 93 => 0x3DB5#16
  | 94 => 0x3DB5#16
  | 95 => 0xBDB5#16
  | 96 => 0x3DB5#16
  | 97 => 0xBDB5#16
  | 98 => 0xBDB5#16
  | 99 => 0x3DB5#16
  | 100 => 0x3DB5#16
  | 101 => 0xBDB5#16
  | 102 => 0xBDB5#16
  | 103 => 0x3DB5#16
  | 104 => 0xBDB5#16
  | 105 => 0x3DB5#16
  | 106 => 0x3DB5#16
  | 107 => 0xBDB5#16
  | 108 => 0xBDB5#16
  | 109 => 0x3DB5#16
  | 110 => 0x3DB5#16
  | 111 => 0xBDB5#16
  | 112 => 0xBDB5#16
  | 113 => 0x3DB5#16
  | 114 => 0x3DB5#16
  | 115 => 0xBDB5#16
  | 116 => 0xBDB5#16
  | 117 => 0x3DB5#16
  | 118 => 0x3DB5#16
  | 119 => 0xBDB5#16
  | 120 => 0x3DB5#16
  | 121 => 0xBDB5#16
  | 122 => 0xBDB5#16
  | 123 => 0x3DB5#16
  | 124 => 0x3DB5#16
  | 125 => 0xBDB5#16
  | 126 => 0xBDB5#16
  | 127 => 0x3DB5#16
  | _ => 0#16

noncomputable abbrev lit0t0_124 (i : Nat) : BitVec 16 := match i % 128 with
  | 0 => 0x3DB5#16
  | 1 => 0x3DB5#16
  | 2 => 0x3DB5#16
  | 3 => 0x3DB5#16
  | 4 => 0xBDB5#16
  | 5 => 0xBDB5#16
  | 6 => 0xBDB5#16
  | 7 => 0xBDB5#16
  | 8 => 0xBDB5#16
  | 9 => 0xBDB5#16
  | 10 => 0xBDB5#16
  | 11 => 0xBDB5#16
  | 12 => 0x3DB5#16
  | 13 => 0x3DB5#16
  | 14 => 0x3DB5#16
  | 15 => 0x3DB5#16
  | 16 => 0xBDB5#16
  | 17 => 0xBDB5#16
  | 18 => 0xBDB5#16
  | 19 => 0xBDB5#16
  | 20 => 0x3DB5#16
  | 21 => 0x3DB5#16
  | 22 => 0x3DB5#16
  | 23 => 0x3DB5#16
  | 24 => 0x3DB5#16
  | 25 => 0x3DB5#16
  | 26 => 0x3DB5#16
  | 27 => 0x3DB5#16
  | 28 => 0xBDB5#16
  | 29 => 0xBDB5#16
  | 30 => 0xBDB5#16
  | 31 => 0xBDB5#16
  | 32 => 0xBDB5#16
  | 33 => 0xBDB5#16
  | 34 => 0xBDB5#16
  | 35 => 0xBDB5#16
  | 36 => 0x3DB5#16
  | 37 => 0x3DB5#16
  | 38 => 0x3DB5#16
  | 39 => 0x3DB5#16
  | 40 => 0x3DB5#16
  | 41 => 0x3DB5#16
  | 42 => 0x3DB5#16
  | 43 => 0x3DB5#16
  | 44 => 0xBDB5#16
  | 45 => 0xBDB5#16
  | 46 => 0xBDB5#16
  | 47 => 0xBDB5#16
  | 48 => 0x3DB5#16
  | 49 => 0x3DB5#16
  | 50 => 0x3DB5#16
  | 51 => 0x3DB5#16
  | 52 => 0xBDB5#16
  | 53 => 0xBDB5#16
  | 54 => 0xBDB5#16
  | 55 => 0xBDB5#16
  | 56 => 0xBDB5#16
  | 57 => 0xBDB5#16
  | 58 => 0xBDB5#16
  | 59 => 0xBDB5#16
  | 60 => 0x3DB5#16
  | 61 => 0x3DB5#16
  | 62 => 0x3DB5#16
  | 63 => 0x3DB5#16
  | 64 => 0xBDB5#16
  | 65 => 0xBDB5#16
  | 66 => 0xBDB5#16
  | 67 => 0xBDB5#16
  | 68 => 0x3DB5#16
  | 69 => 0x3DB5#16
  | 70 => 0x3DB5#16
  | 71 => 0x3DB5#16
  | 72 => 0x3DB5#16
  | 73 => 0x3DB5#16
  | 74 => 0x3DB5#16
  | 75 => 0x3DB5#16
  | 76 => 0xBDB5#16
  | 77 => 0xBDB5#16
  | 78 => 0xBDB5#16
  | 79 => 0xBDB5#16
  | 80 => 0x3DB5#16
  | 81 => 0x3DB5#16
  | 82 => 0x3DB5#16
  | 83 => 0x3DB5#16
  | 84 => 0xBDB5#16
  | 85 => 0xBDB5#16
  | 86 => 0xBDB5#16
  | 87 => 0xBDB5#16
  | 88 => 0xBDB5#16
  | 89 => 0xBDB5#16
  | 90 => 0xBDB5#16
  | 91 => 0xBDB5#16
  | 92 => 0x3DB5#16
  | 93 => 0x3DB5#16
  | 94 => 0x3DB5#16
  | 95 => 0x3DB5#16
  | 96 => 0x3DB5#16
  | 97 => 0x3DB5#16
  | 98 => 0x3DB5#16
  | 99 => 0x3DB5#16
  | 100 => 0xBDB5#16
  | 101 => 0xBDB5#16
  | 102 => 0xBDB5#16
  | 103 => 0xBDB5#16
  | 104 => 0xBDB5#16
  | 105 => 0xBDB5#16
  | 106 => 0xBDB5#16
  | 107 => 0xBDB5#16
  | 108 => 0x3DB5#16
  | 109 => 0x3DB5#16
  | 110 => 0x3DB5#16
  | 111 => 0x3DB5#16
  | 112 => 0xBDB5#16
  | 113 => 0xBDB5#16
  | 114 => 0xBDB5#16
  | 115 => 0xBDB5#16
  | 116 => 0x3DB5#16
  | 117 => 0x3DB5#16
  | 118 => 0x3DB5#16
  | 119 => 0x3DB5#16
  | 120 => 0x3DB5#16
  | 121 => 0x3DB5#16
  | 122 => 0x3DB5#16
  | 123 => 0x3DB5#16
  | 124 => 0xBDB5#16
  | 125 => 0xBDB5#16
  | 126 => 0xBDB5#16
  | 127 => 0xBDB5#16
  | _ => 0#16

noncomputable abbrev lit0t0_125 (i : Nat) : BitVec 16 := match i % 128 with
  | 0 => 0x3DB5#16
  | 1 => 0xBDB5#16
  | 2 => 0x3DB5#16
  | 3 => 0xBDB5#16
  | 4 => 0xBDB5#16
  | 5 => 0x3DB5#16
  | 6 => 0xBDB5#16
  | 7 => 0x3DB5#16
  | 8 => 0xBDB5#16
  | 9 => 0x3DB5#16
  | 10 => 0xBDB5#16
  | 11 => 0x3DB5#16
  | 12 => 0x3DB5#16
  | 13 => 0xBDB5#16
  | 14 => 0x3DB5#16
  | 15 => 0xBDB5#16
  | 16 => 0xBDB5#16
  | 17 => 0x3DB5#16
  | 18 => 0xBDB5#16
  | 19 => 0x3DB5#16
  | 20 => 0x3DB5#16
  | 21 => 0xBDB5#16
  | 22 => 0x3DB5#16
  | 23 => 0xBDB5#16
  | 24 => 0x3DB5#16
  | 25 => 0xBDB5#16
  | 26 => 0x3DB5#16
  | 27 => 0xBDB5#16
  | 28 => 0xBDB5#16
  | 29 => 0x3DB5#16
  | 30 => 0xBDB5#16
  | 31 => 0x3DB5#16
  | 32 => 0xBDB5#16
  | 33 => 0x3DB5#16
  | 34 => 0xBDB5#16
  | 35 => 0x3DB5#16
  | 36 => 0x3DB5#16
  | 37 => 0xBDB5#16
  | 38 => 0x3DB5#16
  | 39 => 0xBDB5#16
  | 40 => 0x3DB5#16
  | 41 => 0xBDB5#16
  | 42 => 0x3DB5#16
  | 43 => 0xBDB5#16
  | 44 => 0xBDB5#16
  | 45 => 0x3DB5#16
  | 46 => 0xBDB5#16
  | 47 => 0x3DB5#16
  | 48 => 0x3DB5#16
  | 49 => 0xBDB5#16
  | 50 => 0x3DB5#16
  | 51 => 0xBDB5#16
  | 52 => 0xBDB5#16
  | 53 => 0x3DB5#16
  | 54 => 0xBDB5#16
  | 55 => 0x3DB5#16
  | 56 => 0xBDB5#16
  | 57 => 0x3DB5#16
  | 58 => 0xBDB5#16
  | 59 => 0x3DB5#16
  | 60 => 0x3DB5#16
  | 61 => 0xBDB5#16
  | 62 => 0x3DB5#16
  | 63 => 0xBDB5#16
  | 64 => 0xBDB5#16
  | 65 => 0x3DB5#16
  | 66 => 0xBDB5#16
  | 67 => 0x3DB5#16
  | 68 => 0x3DB5#16
  | 69 => 0xBDB5#16
  | 70 => 0x3DB5#16
  | 71 => 0xBDB5#16
  | 72 => 0x3DB5#16
  | 73 => 0xBDB5#16
  | 74 => 0x3DB5#16
  | 75 => 0xBDB5#16
  | 76 => 0xBDB5#16
  | 77 => 0x3DB5#16
  | 78 => 0xBDB5#16
  | 79 => 0x3DB5#16
  | 80 => 0x3DB5#16
  | 81 => 0xBDB5#16
  | 82 => 0x3DB5#16
  | 83 => 0xBDB5#16
  | 84 => 0xBDB5#16
  | 85 => 0x3DB5#16
  | 86 => 0xBDB5#16
  | 87 => 0x3DB5#16
  | 88 => 0xBDB5#16
  | 89 => 0x3DB5#16
  | 90 => 0xBDB5#16
  | 91 => 0x3DB5#16
  | 92 => 0x3DB5#16
  | 93 => 0xBDB5#16
  | 94 => 0x3DB5#16
  | 95 => 0xBDB5#16
  | 96 => 0x3DB5#16
  | 97 => 0xBDB5#16
  | 98 => 0x3DB5#16
  | 99 => 0xBDB5#16
  | 100 => 0xBDB5#16
  | 101 => 0x3DB5#16
  | 102 => 0xBDB5#16
  | 103 => 0x3DB5#16
  | 104 => 0xBDB5#16
  | 105 => 0x3DB5#16
  | 106 => 0xBDB5#16
  | 107 => 0x3DB5#16
  | 108 => 0x3DB5#16
  | 109 => 0xBDB5#16
  | 110 => 0x3DB5#16
  | 111 => 0xBDB5#16
  | 112 => 0xBDB5#16
  | 113 => 0x3DB5#16
  | 114 => 0xBDB5#16
  | 115 => 0x3DB5#16
  | 116 => 0x3DB5#16
  | 117 => 0xBDB5#16
  | 118 => 0x3DB5#16
  | 119 => 0xBDB5#16
  | 120 => 0x3DB5#16
  | 121 => 0xBDB5#16
  | 122 => 0x3DB5#16
  | 123 => 0xBDB5#16
  | 124 => 0xBDB5#16
  | 125 => 0x3DB5#16
  | 126 => 0xBDB5#16
  | 127 => 0x3DB5#16
  | _ => 0#16

noncomputable abbrev lit0t0_126 (i : Nat) : BitVec 16 := match i % 128 with
  | 0 => 0x3DB5#16
  | 1 => 0x3DB5#16
  | 2 => 0xBDB5#16
  | 3 => 0xBDB5#16
  | 4 => 0xBDB5#16
  | 5 => 0xBDB5#16
  | 6 => 0x3DB5#16
  | 7 => 0x3DB5#16
  | 8 => 0xBDB5#16
  | 9 => 0xBDB5#16
  | 10 => 0x3DB5#16
  | 11 => 0x3DB5#16
  | 12 => 0x3DB5#16
  | 13 => 0x3DB5#16
  | 14 => 0xBDB5#16
  | 15 => 0xBDB5#16
  | 16 => 0xBDB5#16
  | 17 => 0xBDB5#16
  | 18 => 0x3DB5#16
  | 19 => 0x3DB5#16
  | 20 => 0x3DB5#16
  | 21 => 0x3DB5#16
  | 22 => 0xBDB5#16
  | 23 => 0xBDB5#16
  | 24 => 0x3DB5#16
  | 25 => 0x3DB5#16
  | 26 => 0xBDB5#16
  | 27 => 0xBDB5#16
  | 28 => 0xBDB5#16
  | 29 => 0xBDB5#16
  | 30 => 0x3DB5#16
  | 31 => 0x3DB5#16
  | 32 => 0xBDB5#16
  | 33 => 0xBDB5#16
  | 34 => 0x3DB5#16
  | 35 => 0x3DB5#16
  | 36 => 0x3DB5#16
  | 37 => 0x3DB5#16
  | 38 => 0xBDB5#16
  | 39 => 0xBDB5#16
  | 40 => 0x3DB5#16
  | 41 => 0x3DB5#16
  | 42 => 0xBDB5#16
  | 43 => 0xBDB5#16
  | 44 => 0xBDB5#16
  | 45 => 0xBDB5#16
  | 46 => 0x3DB5#16
  | 47 => 0x3DB5#16
  | 48 => 0x3DB5#16
  | 49 => 0x3DB5#16
  | 50 => 0xBDB5#16
  | 51 => 0xBDB5#16
  | 52 => 0xBDB5#16
  | 53 => 0xBDB5#16
  | 54 => 0x3DB5#16
  | 55 => 0x3DB5#16
  | 56 => 0xBDB5#16
  | 57 => 0xBDB5#16
  | 58 => 0x3DB5#16
  | 59 => 0x3DB5#16
  | 60 => 0x3DB5#16
  | 61 => 0x3DB5#16
  | 62 => 0xBDB5#16
  | 63 => 0xBDB5#16
  | 64 => 0xBDB5#16
  | 65 => 0xBDB5#16
  | 66 => 0x3DB5#16
  | 67 => 0x3DB5#16
  | 68 => 0x3DB5#16
  | 69 => 0x3DB5#16
  | 70 => 0xBDB5#16
  | 71 => 0xBDB5#16
  | 72 => 0x3DB5#16
  | 73 => 0x3DB5#16
  | 74 => 0xBDB5#16
  | 75 => 0xBDB5#16
  | 76 => 0xBDB5#16
  | 77 => 0xBDB5#16
  | 78 => 0x3DB5#16
  | 79 => 0x3DB5#16
  | 80 => 0x3DB5#16
  | 81 => 0x3DB5#16
  | 82 => 0xBDB5#16
  | 83 => 0xBDB5#16
  | 84 => 0xBDB5#16
  | 85 => 0xBDB5#16
  | 86 => 0x3DB5#16
  | 87 => 0x3DB5#16
  | 88 => 0xBDB5#16
  | 89 => 0xBDB5#16
  | 90 => 0x3DB5#16
  | 91 => 0x3DB5#16
  | 92 => 0x3DB5#16
  | 93 => 0x3DB5#16
  | 94 => 0xBDB5#16
  | 95 => 0xBDB5#16
  | 96 => 0x3DB5#16
  | 97 => 0x3DB5#16
  | 98 => 0xBDB5#16
  | 99 => 0xBDB5#16
  | 100 => 0xBDB5#16
  | 101 => 0xBDB5#16
  | 102 => 0x3DB5#16
  | 103 => 0x3DB5#16
  | 104 => 0xBDB5#16
  | 105 => 0xBDB5#16
  | 106 => 0x3DB5#16
  | 107 => 0x3DB5#16
  | 108 => 0x3DB5#16
  | 109 => 0x3DB5#16
  | 110 => 0xBDB5#16
  | 111 => 0xBDB5#16
  | 112 => 0xBDB5#16
  | 113 => 0xBDB5#16
  | 114 => 0x3DB5#16
  | 115 => 0x3DB5#16
  | 116 => 0x3DB5#16
  | 117 => 0x3DB5#16
  | 118 => 0xBDB5#16
  | 119 => 0xBDB5#16
  | 120 => 0x3DB5#16
  | 121 => 0x3DB5#16
  | 122 => 0xBDB5#16
  | 123 => 0xBDB5#16
  | 124 => 0xBDB5#16
  | 125 => 0xBDB5#16
  | 126 => 0x3DB5#16
  | 127 => 0x3DB5#16
  | _ => 0#16

noncomputable abbrev lit0t0_127 (i : Nat) : BitVec 16 := match i % 128 with
  | 0 => 0x3DB5#16
  | 1 => 0xBDB5#16
  | 2 => 0xBDB5#16
  | 3 => 0x3DB5#16
  | 4 => 0xBDB5#16
  | 5 => 0x3DB5#16
  | 6 => 0x3DB5#16
  | 7 => 0xBDB5#16
  | 8 => 0xBDB5#16
  | 9 => 0x3DB5#16
  | 10 => 0x3DB5#16
  | 11 => 0xBDB5#16
  | 12 => 0x3DB5#16
  | 13 => 0xBDB5#16
  | 14 => 0xBDB5#16
  | 15 => 0x3DB5#16
  | 16 => 0xBDB5#16
  | 17 => 0x3DB5#16
  | 18 => 0x3DB5#16
  | 19 => 0xBDB5#16
  | 20 => 0x3DB5#16
  | 21 => 0xBDB5#16
  | 22 => 0xBDB5#16
  | 23 => 0x3DB5#16
  | 24 => 0x3DB5#16
  | 25 => 0xBDB5#16
  | 26 => 0xBDB5#16
  | 27 => 0x3DB5#16
  | 28 => 0xBDB5#16
  | 29 => 0x3DB5#16
  | 30 => 0x3DB5#16
  | 31 => 0xBDB5#16
  | 32 => 0xBDB5#16
  | 33 => 0x3DB5#16
  | 34 => 0x3DB5#16
  | 35 => 0xBDB5#16
  | 36 => 0x3DB5#16
  | 37 => 0xBDB5#16
  | 38 => 0xBDB5#16
  | 39 => 0x3DB5#16
  | 40 => 0x3DB5#16
  | 41 => 0xBDB5#16
  | 42 => 0xBDB5#16
  | 43 => 0x3DB5#16
  | 44 => 0xBDB5#16
  | 45 => 0x3DB5#16
  | 46 => 0x3DB5#16
  | 47 => 0xBDB5#16
  | 48 => 0x3DB5#16
  | 49 => 0xBDB5#16
  | 50 => 0xBDB5#16
  | 51 => 0x3DB5#16
  | 52 => 0xBDB5#16
  | 53 => 0x3DB5#16
  | 54 => 0x3DB5#16
  | 55 => 0xBDB5#16
  | 56 => 0xBDB5#16
  | 57 => 0x3DB5#16
  | 58 => 0x3DB5#16
  | 59 => 0xBDB5#16
  | 60 => 0x3DB5#16
  | 61 => 0xBDB5#16
  | 62 => 0xBDB5#16
  | 63 => 0x3DB5#16
  | 64 => 0xBDB5#16
  | 65 => 0x3DB5#16
  | 66 => 0x3DB5#16
  | 67 => 0xBDB5#16
  | 68 => 0x3DB5#16
  | 69 => 0xBDB5#16
  | 70 => 0xBDB5#16
  | 71 => 0x3DB5#16
  | 72 => 0x3DB5#16
  | 73 => 0xBDB5#16
  | 74 => 0xBDB5#16
  | 75 => 0x3DB5#16
  | 76 => 0xBDB5#16
  | 77 => 0x3DB5#16
  | 78 => 0x3DB5#16
  | 79 => 0xBDB5#16
  | 80 => 0x3DB5#16
  | 81 => 0xBDB5#16
  | 82 => 0xBDB5#16
  | 83 => 0x3DB5#16
  | 84 => 0xBDB5#16
  | 85 => 0x3DB5#16
  | 86 => 0x3DB5#16
  | 87 => 0xBDB5#16
  | 88 => 0xBDB5#16
  | 89 => 0x3DB5#16
  | 90 => 0x3DB5#16
  | 91 => 0xBDB5#16
  | 92 => 0x3DB5#16
  | 93 => 0xBDB5#16
  | 94 => 0xBDB5#16
  | 95 => 0x3DB5#16
  | 96 => 0x3DB5#16
  | 97 => 0xBDB5#16
  | 98 => 0xBDB5#16
  | 99 => 0x3DB5#16
  | 100 => 0xBDB5#16
  | 101 => 0x3DB5#16
  | 102 => 0x3DB5#16
  | 103 => 0xBDB5#16
  | 104 => 0xBDB5#16
  | 105 => 0x3DB5#16
  | 106 => 0x3DB5#16
  | 107 => 0xBDB5#16
  | 108 => 0x3DB5#16
  | 109 => 0xBDB5#16
  | 110 => 0xBDB5#16
  | 111 => 0x3DB5#16
  | 112 => 0xBDB5#16
  | 113 => 0x3DB5#16
  | 114 => 0x3DB5#16
  | 115 => 0xBDB5#16
  | 116 => 0x3DB5#16
  | 117 => 0xBDB5#16
  | 118 => 0xBDB5#16
  | 119 => 0x3DB5#16
  | 120 => 0x3DB5#16
  | 121 => 0xBDB5#16
  | 122 => 0xBDB5#16
  | 123 => 0x3DB5#16
  | 124 => 0xBDB5#16
  | 125 => 0x3DB5#16
  | 126 => 0x3DB5#16
  | 127 => 0xBDB5#16
  | _ => 0#16

noncomputable abbrev lit0t (i : Nat) : BitVec 16 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#16

noncomputable abbrev lit0 : Fin 16384 → BitVec 16 := fun ⟨i, _⟩ => lit0t i

def fn_part1 {F : FTy → Type} [FloatOps F] (main_arg1 : IVec S13824x5120 8) (main_v8 : FVec F S3x2048x13824 .f32) (main_v17 : FVec F S3x2048x1 .f32) : IVec S3x2048x5120 1 × IVec S3x2048x13824 1 × IVec S3x2048x1 1 :=
  let main_v18 : FVec F S3x2048x13824 .f32 := broadcastInDim S3x2048x13824 ![0, 1, 2] bcast_S3x2048x1_S3x2048x13824_0_1_2 main_v17
  let main_v19 : FVec F S3x2048x13824 .f32 := Host.divf main_v8 main_v18
  let main_v20 : FVec F S3x2048x13824 .f32 := Host.roundeven main_v19
  let main_cst_5 : FVec F S_ .f32 := constant S_ .f32 0xC2FE0000#32
  let main_v21 : FVec F S3x2048x13824 .f32 := broadcastInDim S3x2048x13824 ![] bcast_S_S3x2048x13824 main_cst_5
  let main_v22 : FVec F S3x2048x13824 .f32 := maximumf main_v20 main_v21
  let main_cst_6 : FVec F S_ .f32 := constant S_ .f32 0x42FE0000#32
  let main_v23 : FVec F S3x2048x13824 .f32 := broadcastInDim S3x2048x13824 ![] bcast_S_S3x2048x13824 main_cst_6
  let main_v24 : FVec F S3x2048x13824 .f32 := minimumf main_v22 main_v23
  let main_v25 : IVec S13824x5120 32 := (extsi 32 · natLt_8_32) main_arg1
  let main_v26 : FVec F S13824x5120 .f32 := sitofp .f32 main_v25
  let main_v27 : FVec F S3x2048x13824 .f32 := Host.absf main_v24
  let main_v28 : FVec F S13824x5120 .f32 := Host.absf main_v26
  let main_v29 : FVec F S3x2048x5120 .f32 := (fun l r => Host.dotGeneral dot_S3x2048x13824_S13824x5120_S3x2048x5120_2_0_01_1_n_n none l r) main_v27 main_v28
  let main_cst_7 : FVec F S_ .f32 := constant S_ .f32 0x4B7FFFFF#32
  let main_v30 : FVec F S3x2048x5120 .f32 := broadcastInDim S3x2048x5120 ![] bcast_S_S3x2048x5120 main_cst_7
  let main_v31 : IVec S3x2048x5120 1 := cmpf .ole main_v29 main_v30
  let main_c : IVec S_ 1 := constantI S_ 1 1#1
  let main_v32 : IVec S3x2048x13824 1 := broadcastInDim S3x2048x13824 ![] bcast_S_S3x2048x13824 main_c
  let main_c_8 : IVec S_ 1 := constantI S_ 1 1#1
  let main_v33 : IVec S3x2048x1 1 := broadcastInDim S3x2048x1 ![] bcast_S_S3x2048x1 main_c_8
  (main_v31, main_v32, main_v33)

def fn {F : FTy → Type} [FloatOps F] (main_arg0 : FVec F S3x2048x13824 .bf16) (main_arg1 : IVec S13824x5120 8) (main_arg2 : FVec F S5120 .f32) : IVec S3x2048x5120 1 × IVec S3x2048x13824 1 × IVec S3x2048x1 1 :=
  let main_cst : FVec F S128x128 .bf16 := fun i => FloatOps.ofBits .bf16 (lit0 (S128x128.rowMajor i))
  let main_v0 : FVec F S128x128 .f32 := (extf .f32 · bitsLt_bf16_f32) main_cst
  let main_v1 : FVec F S3x2048x13824 .f32 := (extf .f32 · bitsLt_bf16_f32) main_arg0
  let main_v2 : FVec F S3x2048x108x128x1 .f32 := shapeCast S3x2048x108x128x1 main_v1 shapeCasts_S3x2048x13824_S3x2048x108x128x1
  let main_v3 : FVec F S1x1x1x128x128 .f32 := broadcastInDim S1x1x1x128x128 ![3, 4] bcast_S128x128_S1x1x1x128x128_3_4 main_v0
  let main_v4 : FVec F S3x2048x108x128x128 .f32 := broadcastInDim S3x2048x108x128x128 ![0, 1, 2, 3, 4] bcast_S3x2048x108x128x1_S3x2048x108x128x128_0_1_2_3_4 main_v2
  let main_v5 : FVec F S3x2048x108x128x128 .f32 := broadcastInDim S3x2048x108x128x128 ![0, 1, 2, 3, 4] bcast_S1x1x1x128x128_S3x2048x108x128x128_0_1_2_3_4 main_v3
  let main_v6 : FVec F S3x2048x108x128x128 .f32 := mulf main_v4 main_v5
  let main_cst_0 : FVec F S_ .f32 := constant S_ .f32 0x00000000#32
  let main_v7 : FVec F S3x2048x108x128 .f32 := (fun x v => Host.reduceAdd x v reducesTo_S3x2048x108x128x128_S3x2048x108x128_d3 h_S_) main_v6 main_cst_0
  let main_v8 : FVec F S3x2048x13824 .f32 := shapeCast S3x2048x13824 main_v7 shapeCasts_S3x2048x108x128_S3x2048x13824
  let main_v9 : FVec F S3x2048x13824 .f32 := Host.absf main_v8
  let main_cst_1 : FVec F S_ .f32 := constant S_ .f32 0xFF800000#32
  let main_v10 : FVec F S3x2048 .f32 := (fun x v => Host.reduce FloatOps.maximumf x v reducesTo_S3x2048x13824_S3x2048_d2 h_S_) main_v9 main_cst_1
  let main_v11 : FVec F S3x2048x1 .f32 := broadcastInDim S3x2048x1 ![0, 1] bcast_S3x2048_S3x2048x1_0_1 main_v10
  let main_cst_2 : FVec F S_ .f32 := constant S_ .f32 0x00000000#32
  let main_v12 : FVec F S3x2048x1 .f32 := broadcastInDim S3x2048x1 ![] bcast_S_S3x2048x1 main_cst_2
  let main_v13 : IVec S3x2048x1 1 := cmpf .ogt main_v11 main_v12
  let main_cst_3 : FVec F S_ .f32 := constant S_ .f32 0x42FE0000#32
  let main_v14 : FVec F S3x2048x1 .f32 := broadcastInDim S3x2048x1 ![] bcast_S_S3x2048x1 main_cst_3
  let main_v15 : FVec F S3x2048x1 .f32 := Host.divf main_v11 main_v14
  let main_cst_4 : FVec F S_ .f32 := constant S_ .f32 0x3F800000#32
  let main_v16 : FVec F S3x2048x1 .f32 := broadcastInDim S3x2048x1 ![] bcast_S_S3x2048x1 main_cst_4
  let main_v17 : FVec F S3x2048x1 .f32 := select main_v13 main_v15 main_v16
  fn_part1 (F := F) main_arg1 main_v8 main_v17
-- ==== Kernel.lean ====
abbrev S3x2048x13824 : Shape := ⟨3, ![3, 2048, 13824]⟩
abbrev S13824x5120 : Shape := ⟨2, ![13824, 5120]⟩
abbrev S5120 : Shape := ⟨1, ![5120]⟩
abbrev S256x256 : Shape := ⟨2, ![256, 256]⟩
abbrev S6144x13824 : Shape := ⟨2, ![6144, 13824]⟩
abbrev S6144x1 : Shape := ⟨2, ![6144, 1]⟩
abbrev S256x13824 : Shape := ⟨2, ![256, 13824]⟩
abbrev S256x1 : Shape := ⟨2, ![256, 1]⟩
abbrev S256 : Shape := ⟨1, ![256]⟩
abbrev S1x5120 : Shape := ⟨2, ![1, 5120]⟩
abbrev S6144x5120 : Shape := ⟨2, ![6144, 5120]⟩
abbrev S512x13824 : Shape := ⟨2, ![512, 13824]⟩
abbrev S13824x512 : Shape := ⟨2, ![13824, 512]⟩
abbrev S512x1 : Shape := ⟨2, ![512, 1]⟩
abbrev S1x512 : Shape := ⟨2, ![1, 512]⟩
abbrev S512x512 : Shape := ⟨2, ![512, 512]⟩
abbrev S3x2048x5120 : Shape := ⟨3, ![3, 2048, 5120]⟩
abbrev S3x2048x1 : Shape := ⟨3, ![3, 2048, 1]⟩

abbrev nBuf : Space → Nat
  | .hbm => 12
  | .vmem => 18
  | .smem => 0
  | _ => 0

abbrev bufTy : (tb : Table) → Fin (tcTables nBuf tb) → BufTy
  | .hbm, ⟨0, _⟩ => ⟨S3x2048x13824, .bf16⟩
  | .hbm, ⟨1, _⟩ => ⟨S13824x5120, .i8⟩
  | .hbm, ⟨2, _⟩ => ⟨S5120, .f32⟩
  | .hbm, ⟨3, _⟩ => ⟨S256x256, .bf16⟩
  | .hbm, ⟨4, _⟩ => ⟨S6144x13824, .bf16⟩
  | .hbm, ⟨5, _⟩ => ⟨S6144x13824, .i8⟩
  | .hbm, ⟨6, _⟩ => ⟨S6144x1, .f32⟩
  | .hbm, ⟨7, _⟩ => ⟨S1x5120, .f32⟩
  | .hbm, ⟨8, _⟩ => ⟨S6144x5120, .bf16⟩
  | .hbm, ⟨9, _⟩ => ⟨S3x2048x5120, .bf16⟩
  | .hbm, ⟨10, _⟩ => ⟨S3x2048x13824, .i8⟩
  | .hbm, ⟨11, _⟩ => ⟨S3x2048x1, .f32⟩
  | .local _ .vmem, ⟨0, _⟩ => ⟨S256x13824, .bf16⟩
  | .local _ .vmem, ⟨1, _⟩ => ⟨S256x13824, .bf16⟩
  | .local _ .vmem, ⟨2, _⟩ => ⟨S256x256, .bf16⟩
  | .local _ .vmem, ⟨3, _⟩ => ⟨S256x13824, .i8⟩
  | .local _ .vmem, ⟨4, _⟩ => ⟨S256x13824, .i8⟩
  | .local _ .vmem, ⟨5, _⟩ => ⟨S256x1, .f32⟩
  | .local _ .vmem, ⟨6, _⟩ => ⟨S256x1, .f32⟩
  | .local _ .vmem, ⟨7, _⟩ => ⟨S256x13824, .f32⟩
  | .local _ .vmem, ⟨8, _⟩ => ⟨S512x13824, .i8⟩
  | .local _ .vmem, ⟨9, _⟩ => ⟨S512x13824, .i8⟩
  | .local _ .vmem, ⟨10, _⟩ => ⟨S13824x512, .i8⟩
  | .local _ .vmem, ⟨11, _⟩ => ⟨S13824x512, .i8⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S3x2048x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x13824 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x13824 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![12, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x13824 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S13824x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S3x2048x13824 : Shape := ⟨3, ![3, 2048, 13824]⟩
abbrev S13824x5120 : Shape := ⟨2, ![13824, 5120]⟩
abbrev S5120 : Shape := ⟨1, ![5120]⟩
abbrev S128x128 : Shape := ⟨2, ![128, 128]⟩
abbrev S3x2048x108x128 : Shape := ⟨4, ![3, 2048, 108, 128]⟩
abbrev S_ : Shape := ⟨0, ![]⟩
abbrev S3x2048 : Shape := ⟨2, ![3, 2048]⟩
abbrev S3x2048x1 : Shape := ⟨3, ![3, 2048, 1]⟩
abbrev S3x2048x5120 : Shape := ⟨3, ![3, 2048, 5120]⟩
abbrev S1x1x5120 : Shape := ⟨3, ![1, 1, 5120]⟩

abbrev nBuf : Space → Nat
  | .hbm => 45
  | .vmem => 0
  | .smem => 0
  | _ => 0

abbrev bufTy : (tb : Table) → Fin (tcTables nBuf tb) → BufTy
  | .hbm, ⟨0, _⟩ => ⟨S3x2048x13824, .bf16⟩
  | .hbm, ⟨1, _⟩ => ⟨S13824x5120, .i8⟩
  | .hbm, ⟨2, _⟩ => ⟨S5120, .f32⟩
  | .hbm, ⟨3, _⟩ => ⟨S128x128, .bf16⟩
  | .hbm, ⟨4, _⟩ => ⟨S3x2048x13824, .f32⟩
  | .hbm, ⟨5, _⟩ => ⟨S3x2048x108x128, .f32⟩
  | .hbm, ⟨6, _⟩ => ⟨S128x128, .f32⟩
  | .hbm, ⟨7, _⟩ => ⟨S3x2048x108x128, .f32⟩
  | .hbm, ⟨8, _⟩ => ⟨S3x2048x13824, .f32⟩
  | .hbm, ⟨9, _⟩ => ⟨S3x2048x13824, .f32⟩
  | .hbm, ⟨10, _⟩ => ⟨S_, .f32⟩
  | .hbm, ⟨11, _⟩ => ⟨S3x2048, .f32⟩
  | .hbm, ⟨12, _⟩ => ⟨S3x2048x1, .f32⟩
  | .hbm, ⟨13, _⟩ => ⟨S_, .f32⟩
  | .hbm, ⟨14, _⟩ => ⟨S3x2048x1, .f32⟩
  | .hbm, ⟨15, _⟩ => ⟨S3x2048x1, .i1⟩
  | .hbm, ⟨16, _⟩ => ⟨S_, .f32⟩
  | .hbm, ⟨17, _⟩ => ⟨S3x2048x1, .f32⟩
  | .hbm, ⟨18, _⟩ => ⟨S3x2048x1, .f32⟩
  | .hbm, ⟨19, _⟩ => ⟨S_, .f32⟩
  | .hbm, ⟨20, _⟩ => ⟨S_, .f32⟩
  | .hbm, ⟨21, _⟩ => ⟨S3x2048x1, .f32⟩
  | .hbm, ⟨22, _⟩ => ⟨S3x2048x1, .f32⟩
  | .hbm, ⟨23, _⟩ => ⟨S3x2048x13824, .f32⟩
  | .hbm, ⟨24, _⟩ => ⟨S3x2048x13824, .f32⟩
  | .hbm, ⟨25, _⟩ => ⟨S3x2048x13824, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S3x2048x13824, .f32⟩
  | .hbm, ⟨30, _⟩ => ⟨S3x2048x13824, .f32⟩
  | .hbm, ⟨31, _⟩ => ⟨S_, .f32⟩
  | .hbm, ⟨32, _⟩ => ⟨S3x2048x13824, .f32⟩
  | .hbm, ⟨33, _⟩ => ⟨S3x2048x13824, .f32⟩
  | .hbm, ⟨34, _⟩ => ⟨S13824x5120, .i32⟩
  | .hbm, ⟨35, _⟩ => ⟨S13824x5120, .f32⟩
  | .hbm, ⟨36, _⟩ => ⟨S3x2048x5120, .f32⟩
  | .hbm, ⟨37, _⟩ => ⟨S3x2048x5120, .f32⟩
  | .hbm, ⟨38, _⟩ => ⟨S3x2048x5120, .f32⟩
  | .hbm, ⟨39, _⟩ => ⟨S1x1x5120, .f32⟩
  | .hbm, ⟨40, _⟩ => ⟨S3x2048x5120, .f32⟩
  | .hbm, ⟨41, _⟩ => ⟨S3x2048x5120, .f32⟩
  | .hbm, ⟨42, _⟩ => ⟨S3x2048x5120, .bf16⟩
  | .hbm, ⟨43, _⟩ => ⟨S3x2048x13824, .i32⟩
  | .hbm, ⟨44, _⟩ => ⟨S3x2048x13824, .i8⟩
  | _, _ => ⟨S3x2048x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Math.lean ====
/-
  The problem's mathematics on the extended reals, free of programs: one 13824-wide row `X` rotated block by block by a
  128 × 128 matrix, its largest magnitude, its scale and its codes; and the arithmetic facts the proofs use of them.
-/
module

public import Idealize.ShloMosaic.Lib.Pointwise
public import Idealize.ShloMosaic.PureOps.Ideal
public import Idealize.ShloMosaic.PureOps.Ideal.Laws

@[expose] public section

noncomputable section

namespace Cert.Spec

open Idealize.ShloMosaic

/-- The bf16 word of entry `(k, j)` of the normalised 128 × 128 Hadamard matrix: `1/√128` rounded to bf16, its sign the parity
    of the bits the two indices share. -/
def hadBits (k j : Nat) : BitVec 16 :=
  if ((k &&& j).testBit 0 ^^ (k &&& j).testBit 1 ^^ (k &&& j).testBit 2 ^^ (k &&& j).testBit 3 ^^ (k &&& j).testBit 4
      ^^ (k &&& j).testBit 5 ^^ (k &&& j).testBit 6) then 0xBDB5#16 else 0x3DB5#16

/-- The same entry as an extended real. -/
def had (k j : Nat) : EReal := Ideal.ofBits .bf16 (hadBits k j)

/-- Element `c` of the rotated row: the products of its 128-block of `X` with the matrix's column `c mod 128`, summed. -/
def rot (X : Fin 13824 → EReal) (c : Fin 13824) : EReal :=
  ∑ k : Fin 128, X ⟨128 * (c.val / 128) + k.val, by omega⟩ * had k.val (c.val % 128)

/-- The largest magnitude of the rotated row. -/
def amax (X : Fin 13824 → EReal) : EReal := Finset.univ.sup fun c => max (rot X c) (-(rot X c))

/-- The row's scale: its largest magnitude over 127, and 1 for a row of zeros. -/
def scale (X : Fin 13824 → EReal) : EReal :=
  if 0 < amax X then Ideal.div (amax X) (Ideal.ofBits .f32 0x42FE0000#32) else 1

/-- Rounded to the nearest integer, ties to even, and clipped to [-127, 127]. -/
def clipRound (v : EReal) : EReal :=
  min (Ideal.ofBits .f32 0x42FE0000#32) (max (Ideal.ofBits .f32 0xC2FE0000#32) (Ideal.liftRound Ideal.roundHalfEven v))

/-- The code of element `c`, as an extended real. -/
def codeR (X : Fin 13824 → EReal) (c : Fin 13824) : EReal := clipRound (Ideal.div (rot X c) (scale X))

/-- The code of element `c`, as an 8-bit word. -/
def code (X : Fin 13824 → EReal) (c : Fin 13824) : BitVec 8 := Ideal.fptosi 8 (codeR X c)

/-- The clip's upper bound is 127. -/
theorem ofBits_127 : Ideal.ofBits .f32 0x42FE0000#32 = ((127 : ℝ) : EReal) := by
  simp [Ideal.ofBits, Ideal.ieee, -EReal.coe_mul]; norm_num

/-- The clip's lower bound is -127. -/
theorem ofBits_neg127 : Ideal.ofBits .f32 0xC2FE0000#32 = ((-127 : ℝ) : EReal) := by
  simp [Ideal.ofBits, Ideal.ieee, -EReal.coe_mul]; norm_num

/-- The bound of the exact range. -/
theorem ofBits_total : Ideal.ofBits .f32 0x4B7FFFFF#32 = ((16777215 : ℝ) : EReal) := by
  simp [Ideal.ofBits, Ideal.ieee, -EReal.coe_mul]

/-- A clipped value is an integer between -127 and 127. -/
theorem clipRound_int (v : EReal) : ∃ n : ℤ, -127 ≤ n ∧ n ≤ 127 ∧ clipRound v = ((n : ℝ) : EReal) := by
  unfold clipRound
  rw [ofBits_127, ofBits_neg127]
  induction v with
  | bot => exact ⟨-127, by omega, by omega, by
      show min ((127 : ℝ) : EReal) (max ((-127 : ℝ) : EReal) ⊥) = _
      rw [max_bot_right, min_eq_right (by exact_mod_cast (by norm_num : (-127 : ℝ) ≤ 127))]; norm_num⟩
  | top => exact ⟨127, by omega, by omega, by
      show min ((127 : ℝ) : EReal) (max ((-127 : ℝ) : EReal) ⊤) = _
      rw [max_top_right, min_top_right]; norm_num⟩
  | coe r =>
      show ∃ n : ℤ, -127 ≤ n ∧ n ≤ 127 ∧ min ((127 : ℝ) : EReal) (max ((-127 : ℝ) : EReal) (((Ideal.roundHalfEven r : ℤ) : ℝ) : EReal)) = _
      refine ⟨min 127 (max (-127) (Ideal.roundHalfEven r)), by omega, by omega, ?_⟩
      push_cast
      rfl

/-- An integer value in range converts to its word. -/
theorem fptosi_int (w : Nat) (n : ℤ) (hlo : -(2 ^ (w - 1) : Nat) ≤ n) (hhi : n ≤ (2 ^ (w - 1) : Nat) - 1) :
    Ideal.fptosi w ((n : ℝ) : EReal) = BitVec.ofInt w n := by
  unfold Ideal.fptosi
  rw [Ideal.toIntClamped_coe]
  have h : (if (0:ℝ) ≤ (n:ℝ) then ⌊(n:ℝ)⌋ else ⌈(n:ℝ)⌉) = n := by split <;> simp
  rw [h, min_eq_right hhi, max_eq_right hlo]

/-- A clipped value's 8-bit word, read back as a signed integer, is the value. -/
theorem fptosi8_clipRound (v : EReal) : (((Ideal.fptosi 8 (clipRound v)).toInt : ℝ) : EReal) = clipRound v := by
  obtain ⟨n, h1, h2, hn⟩ := clipRound_int v
  rw [hn, fptosi_int 8 n (by norm_num; omega) (by norm_num; omega), BitVec.toInt_ofInt]
  congr 2
  rw [Int.bmod_eq_of_le] <;> omega

/-- Converting a clipped value to 32 bits and cutting the word to 8 gives the 8-bit conversion. -/
theorem trunc_fptosi32_clipRound (v : EReal) :
    (Ideal.fptosi 32 (clipRound v)).truncate 8 = Ideal.fptosi 8 (clipRound v) := by
  obtain ⟨n, h1, h2, hn⟩ := clipRound_int v
  rw [hn, fptosi_int 8 n (by norm_num; omega) (by norm_num; omega), fptosi_int 32 n (by norm_num; omega) (by norm_num; omega)]
  apply BitVec.eq_of_toInt_eq
  rw [BitVec.truncate_eq_setWidth]
  have h : n = -127 + ((n + 127).toNat : ℤ) := by omega
  have hm : (n + 127).toNat < 255 := by omega
  generalize (n + 127).toNat = m at h hm
  subst h
  have : ∀ m : Fin 255, ((BitVec.ofInt 32 (-127 + (m.val : ℤ))).setWidth 8).toInt = (BitVec.ofInt 8 (-127 + (m.val : ℤ))).toInt := by
    decide +kernel
  exact this ⟨m, hm⟩

/-- The row's largest magnitude is not negative. -/
theorem amax_nonneg (X : Fin 13824 → EReal) : 0 ≤ amax X := by
  refine le_trans ?_ (Finset.le_sup (f := fun c => max (rot X c) (-(rot X c))) (Finset.mem_univ (0 : Fin 13824)))
  rcases le_total 0 (rot X 0) with h | h
  · exact le_max_of_le_left h
  · exact le_max_of_le_right (EReal.neg_nonneg.mpr h)

/-- The scale is not zero. -/
theorem scale_ne_zero (X : Fin 13824 → EReal) : scale X ≠ 0 := by
  unfold scale
  split
  · rename_i h
    rw [ofBits_127, Ideal.div_coe (by norm_num)]
    exact mul_ne_zero h.ne' (by norm_num)
  · exact one_ne_zero

/-- Dividing by a value that is not zero is multiplying by its reciprocal. -/
theorem div_eq_mul_inv (v s : EReal) (h : s ≠ 0) : v * Ideal.div 1 s = Ideal.div v s := by
  unfold Ideal.div
  rw [if_neg h, if_neg h, one_mul]

end Cert.Spec

end
-- ==== Proof.Body.lean ====
/-
  What one run of the rotate-and-quantise body leaves, read as vectors: every store to the scratch is a block of the rotated
  rows, the running maximum is the fold over the 54 chunks, and every store of codes is the quantised block of the rotated rows.
-/
module

public import proofs.«01_k».proof.Proof.Gen.KernelIdeal.Frame
public import proofs.«01_k».proof.Proof.Math

@[expose] public section

set_option maxRecDepth 100000

noncomputable section

namespace Cert.KernelIdeal.Body

open Idealize.ShloMosaic Idealize.SL.Sem
open Cert.KernelIdeal.Gen

variable {F : FTy → Type} [FloatOps F]

/-- A chunk times the operand. -/
def mm (v : Vec F S256x256 .bf16) (b : Vec F S256x256 .bf16) : FVec F S256x256 .f32 :=
  matmul dot_S256x256_S256x256_S256x256_1_0_0_1_n_n none (shapeCast S256x256 v shapeCasts_S256x256_S256x256) b
    (constant S256x256 .f32 0x00000000#32)

/-- The chunk of 256 columns from column `N` times the operand `b`. -/
def mmAt (M : Memref sig .tc .vmem S256x13824 .bf16) (hM : M.IsWhole) (x0 : Vec F S256x13824 .bf16) (b : Vec F S256x256 .bf16)
    (N : Nat) (inb : ∀ a, (![0, N] : Fin 2 → Nat) a + S256x256.size a ≤ S256x13824.size a) : FVec F S256x256 .f32 :=
  mm (View.readAt (Elt F) M.view (Rect.unit (s := S256x13824) ![0, N] S256x256.size inb).toLoadRect (hM.unread x0)) b

/-- Chunk `k` lies within the row. -/
theorem inbK (k : Nat) (h : k < 54) : ∀ a, (![0, 256 * k] : Fin 2 → Nat) a + S256x256.size a ≤ S256x13824.size a := by
  intro a
  match a with
  | ⟨0, _⟩ => show 0 + 256 ≤ 256; omega
  | ⟨1, _⟩ => show 256 * k + 256 ≤ 13824; omega

/-- The elementwise running maximum of the first `n` rotated chunks' magnitudes, from zero. -/
def accV (M : Memref sig .tc .vmem S256x13824 .bf16) (hM : M.IsWhole) (x0 : Vec F S256x13824 .bf16) (b : Vec F S256x256 .bf16) :
    Nat → FVec F S256x256 .f32
  | 0 => broadcast S256x256 (Scalar.ofBits .f32 0x00000000#32)
  | n + 1 => if h : n < 54 then maximumf (accV M hM x0 b n) (absf (mmAt M hM x0 b (256 * n) (inbK n h))) else accV M hM x0 b n

/-- The rows' scales from the running maximum. -/
def scaleV (v : FVec F S256x256 .f32) : FVec F S256x1 .f32 :=
  select (cmpf .ogt (shapeCast S256x1 (multiReduction .maximumf [1] S256 v 0xFF800000#32 reduces_S256x256_S256 (.inl rfl) rfl) shapeCasts_S256_S256x1)
      (broadcast S256x1 (Scalar.ofBits .f32 0x00000000#32)))
    (divf (shapeCast S256x1 (multiReduction .maximumf [1] S256 v 0xFF800000#32 reduces_S256x256_S256 (.inl rfl) rfl) shapeCasts_S256_S256x1)
      (broadcast S256x1 (Scalar.ofBits .f32 0x42FE0000#32)))
    (broadcast S256x1 (Scalar.ofBits .f32 0x3F800000#32))

/-- A chunk's codes from the rows' scales. -/
def codeV (s : FVec F S256x1 .f32) (v : Vec F S256x256 .f32) : IVec S256x256 8 :=
  fptosi 8 (minimumf (broadcast S256x256 (Scalar.ofBits .f32 0x42FE0000#32)) (maximumf (broadcast S256x256 (Scalar.ofBits .f32 0xC2FE0000#32))
    (roundeven (mulf v (broadcastTo S256x256 (divf (broadcast S256x1 (Scalar.ofBits .f32 0x3F800000#32)) s) broadcasts_S256x1_S256x256)))))

variable (c : Dev nD) (i : grid0.Coords) (arg1 : Memref sig .tc .vmem S256x13824 .bf16) (harg1 : arg1.IsWhole) (arg2 : Memref sig .tc .vmem S256x256 .bf16) (harg2 : arg2.IsWhole)
  (arg3 : Memref sig .tc .vmem S256x13824 .i8) (harg3 : arg3.IsWhole) (arg4 : Memref sig .tc .vmem S256x1 .f32) (harg4 : arg4.IsWhole)
  (arg5 : Memref sig .tc .vmem S256x13824 .f32) (harg5 : arg5.IsWhole)
  (x0 : Vec F S256x13824 .bf16) (x1 : Vec F S256x256 .bf16)

/-- The body's scale value is the scale of the 54-chunk running maximum. -/
theorem scale_eq : kernelRun0_A.sl.r_21 (F := F) c arg1 harg1 arg2 harg2 x0 x1
    = scaleV (accV arg1 harg1 x0 (kernelRun0_A.sl.r (F := F) c arg2 harg2 x1) 54) := by
  rfl

/-- A list of pieces each of which is, on its rectangle of 256 columns from `256 * k`, the chunk-wise value `P k`. -/
def Chunks {e : EltTy} (P : (N : Nat) → (∀ a, (![0, N] : Fin 2 → Nat) a + S256x256.size a ≤ S256x13824.size a) → S256x256.Idx → Elt F e) :
    List (View.Piece (Elt F) S256x13824 e) → Prop
  | [] => True
  | p :: L => (∃ k, ∃ h : k < 54, p = ⟨Rect.unit ![0, 256 * k] S256x256.size (inbK k h), P (256 * k) (inbK k h)⟩) ∧ Chunks P L

/-- Every store to the scratch is a chunk times the operand. -/
theorem scratch_chunks : Chunks (fun N inb => shapeCast S256x256 (mmAt arg1 harg1 x0 (kernelRun0_A.sl.r (F := F) c arg2 harg2 x1) N inb) shapeCasts_S256x256_S256x256)
    (kernelRun0_A.sl.HS0_54 (F := F) c arg1 harg1 arg2 harg2 x0 x1) := by
  unfold kernelRun0_A.sl.HS0_54
  exact ⟨⟨53, by omega, rfl⟩, ⟨52, by omega, rfl⟩, ⟨51, by omega, rfl⟩, ⟨50, by omega, rfl⟩, ⟨49, by omega, rfl⟩, ⟨48, by omega, rfl⟩, ⟨47, by omega, rfl⟩, ⟨46, by omega, rfl⟩, ⟨45, by omega, rfl⟩, ⟨44, by omega, rfl⟩, ⟨43, by omega, rfl⟩, ⟨42, by omega, rfl⟩, ⟨41, by omega, rfl⟩, ⟨40, by omega, rfl⟩, ⟨39, by omega, rfl⟩, ⟨38, by omega, rfl⟩, ⟨37, by omega, rfl⟩, ⟨36, by omega, rfl⟩, ⟨35, by omega, rfl⟩, ⟨34, by omega, rfl⟩, ⟨33, by omega, rfl⟩, ⟨32, by omega, rfl⟩, ⟨31, by omega, rfl⟩, ⟨30, by omega, rfl⟩, ⟨29, by omega, rfl⟩, ⟨28, by omega, rfl⟩, ⟨27, by omega, rfl⟩, ⟨26, by omega, rfl⟩, ⟨25, by omega, rfl⟩, ⟨24, by omega, rfl⟩, ⟨23, by omega, rfl⟩, ⟨22, by omega, rfl⟩, ⟨21, by omega, rfl⟩, ⟨20, by omega, rfl⟩, ⟨19, by omega, rfl⟩, ⟨18, by omega, rfl⟩, ⟨17, by omega, rfl⟩, ⟨16, by omega, rfl⟩, ⟨15, by omega, rfl⟩, ⟨14, by omega, rfl⟩, ⟨13, by omega, rfl⟩, ⟨12, by omega, rfl⟩, ⟨11, by omega, rfl⟩, ⟨10, by omega, rfl⟩, ⟨9, by omega, rfl⟩, ⟨8, by omega, rfl⟩, ⟨7, by omega, rfl⟩, ⟨6, by omega, rfl⟩, ⟨5, by omega, rfl⟩, ⟨4, by omega, rfl⟩, ⟨3, by omega, rfl⟩, ⟨2, by omega, rfl⟩, ⟨1, by omega, rfl⟩, ⟨0, by omega, rfl⟩, trivial⟩

/-- Every store of codes quantises the scratch's chunk by the rows' scales. -/
theorem code_chunks : Chunks (fun N inb => codeV (kernelRun0_A.sl.r_21 (F := F) c arg1 harg1 arg2 harg2 x0 x1)
      (arg5.view.readCov (kernelRun0_A.sl.HS0_54 (F := F) c arg1 harg1 arg2 harg2 x0 x1) (Rect.unit (s := S256x13824) ![0, N] S256x256.size inb).toLoadRect))
    (kernelRun0_A (F := F) c i arg1 harg1 arg2 harg2 arg3 harg3 arg4 harg4 arg5 harg5 x0 x1).1 := by
  dsimp only [kernelRun0_A]
  exact ⟨⟨53, by omega, rfl⟩, ⟨52, by omega, rfl⟩, ⟨51, by omega, rfl⟩, ⟨50, by omega, rfl⟩, ⟨49, by omega, rfl⟩, ⟨48, by omega, rfl⟩, ⟨47, by omega, rfl⟩, ⟨46, by omega, rfl⟩, ⟨45, by omega, rfl⟩, ⟨44, by omega, rfl⟩, ⟨43, by omega, rfl⟩, ⟨42, by omega, rfl⟩, ⟨41, by omega, rfl⟩, ⟨40, by omega, rfl⟩, ⟨39, by omega, rfl⟩, ⟨38, by omega, rfl⟩, ⟨37, by omega, rfl⟩, ⟨36, by omega, rfl⟩, ⟨35, by omega, rfl⟩, ⟨34, by omega, rfl⟩, ⟨33, by omega, rfl⟩, ⟨32, by omega, rfl⟩, ⟨31, by omega, rfl⟩, ⟨30, by omega, rfl⟩, ⟨29, by omega, rfl⟩, ⟨28, by omega, rfl⟩, ⟨27, by omega, rfl⟩, ⟨26, by omega, rfl⟩, ⟨25, by omega, rfl⟩, ⟨24, by omega, rfl⟩, ⟨23, by omega, rfl⟩, ⟨22, by omega, rfl⟩, ⟨21, by omega, rfl⟩, ⟨20, by omega, rfl⟩, ⟨19, by omega, rfl⟩, ⟨18, by omega, rfl⟩, ⟨17, by omega, rfl⟩, ⟨16, by omega, rfl⟩, ⟨15, by omega, rfl⟩, ⟨14, by omega, rfl⟩, ⟨13, by omega, rfl⟩, ⟨12, by omega, rfl⟩, ⟨11, by omega, rfl⟩, ⟨10, by omega, rfl⟩, ⟨9, by omega, rfl⟩, ⟨8, by omega, rfl⟩, ⟨7, by omega, rfl⟩, ⟨6, by omega, rfl⟩, ⟨5, by omega, rfl⟩, ⟨4, by omega, rfl⟩, ⟨3, by omega, rfl⟩, ⟨2, by omega, rfl⟩, ⟨1, by omega, rfl⟩, ⟨0, by omega, rfl⟩, trivial⟩

/-- The one store of scales. -/
theorem scale_piece : (kernelRun0_A (F := F) c i arg1 harg1 arg2 harg2 arg3 harg3 arg4 harg4 arg5 harg5 x0 x1).2.1
    = [⟨Rect.unit ![0, 0] S256x1.size inb_S256x1_S256x1_0_0, kernelRun0_A.sl.r_21 (F := F) c arg1 harg1 arg2 harg2 x0 x1⟩] := by
  dsimp only [kernelRun0_A]
  rfl

end Cert.KernelIdeal.Body
end
-- ==== Proof.Bits.lean ====
module
public import proofs.«01_k».proof.Proof.Math
@[expose] public section
noncomputable section
namespace Cert.Spec
open Idealize.ShloMosaic

/-- The kernel's 256 by 256 operand: the 128 by 128 Hadamard matrix twice on the diagonal, zero elsewhere. -/
def blockBits (k j : Nat) : BitVec 16 := if k / 128 = j / 128 then hadBits (k % 128) (j % 128) else 0x0000#16

end Cert.Spec
end
-- ==== Proof.BodyValue.lean ====
/-
  The rotate-and-quantise body's two blocks on the extended reals: the codes and the scales of its 256 rows.
-/
module

public import proofs.«01_k».proof.Proof.Body
public import proofs.«01_k».proof.Proof.Bits
public import Idealize.ShloMosaic.Lib.WholeRead

@[expose] public section

set_option maxRecDepth 100000

noncomputable section

namespace Cert.Spec

open Idealize.ShloMosaic

/-- The 256-wide product with the two diagonal blocks is the rotation within the 128-block. -/
theorem rot_of_block (X : Fin 13824 → EReal) (K : Nat) (hK : K < 54) (j : Fin 256) :
    (∑ k : Fin 256, X ⟨256 * K + k.val, by omega⟩ * Ideal.ofBits .bf16 (blockBits k.val j.val))
      = rot X ⟨256 * K + j.val, by omega⟩ := by
  have hz : Ideal.ofBits .bf16 0x0000#16 = 0 := Ideal.ofBits_zero_bf16
  rw [show (∑ k : Fin 256, X ⟨256 * K + k.val, by omega⟩ * Ideal.ofBits .bf16 (blockBits k.val j.val))
    = ∑ k : Fin (128 + 128), X ⟨256 * K + k.val, by omega⟩ * Ideal.ofBits .bf16 (blockBits k.val j.val) from rfl]
  rw [Fin.sum_univ_add]
  unfold rot had
  by_cases hj : j.val < 128
  · rw [Finset.sum_eq_zero (s := Finset.univ) (f := fun k : Fin 128 => X ⟨256 * K + (Fin.natAdd 128 k).val, _⟩ * _), add_zero]
    · refine Finset.sum_congr rfl fun k _ => ?_
      have e1 : blockBits k.val j.val = hadBits k.val ((256 * K + j.val) % 128) := by
        unfold blockBits; rw [if_pos (by omega)]; congr 1 <;> omega
      show X ⟨256 * K + k.val, by omega⟩ * Ideal.ofBits .bf16 (blockBits k.val j.val) = _
      rw [e1]
      congr 2
      apply Fin.ext
      show 256 * K + k.val = 128 * ((256 * K + j.val) / 128) + k.val
      omega
    · intro k _
      have e1 : blockBits (128 + k.val) j.val = 0x0000#16 := by
        unfold blockBits; rw [if_neg (by omega)]
      show X ⟨256 * K + (128 + k.val), by omega⟩ * Ideal.ofBits .bf16 (blockBits (128 + k.val) j.val) = 0
      rw [e1, hz, mul_zero]
  · rw [Finset.sum_eq_zero (s := Finset.univ) (f := fun k : Fin 128 => X ⟨256 * K + (Fin.castAdd 128 k).val, _⟩ * _), zero_add]
    · refine Finset.sum_congr rfl fun k _ => ?_
      have e1 : blockBits (128 + k.val) j.val = hadBits k.val ((256 * K + j.val) % 128) := by
        unfold blockBits; rw [if_pos (by omega)]; congr 1 <;> omega
      show X ⟨256 * K + (128 + k.val), by omega⟩ * Ideal.ofBits .bf16 (blockBits (128 + k.val) j.val) = _
      rw [e1]
      congr 2
      apply Fin.ext
      show 256 * K + (128 + k.val) = 128 * ((256 * K + j.val) / 128) + k.val
      omega
    · intro k _
      have e1 : blockBits k.val j.val = 0x0000#16 := by
        unfold blockBits; rw [if_neg (by omega)]
      show X ⟨256 * K + k.val, by omega⟩ * Ideal.ofBits .bf16 (blockBits k.val j.val) = 0
      rw [e1, hz, mul_zero]

end Cert.Spec

namespace Cert.KernelIdeal.Body

open Idealize.ShloMosaic Idealize.SL.Sem
open Cert.KernelIdeal.Gen Cert.Spec

variable (c : Dev nD) (i : grid0.Coords) (arg1 : Memref sig .tc .vmem S256x13824 .bf16) (harg1 : arg1.IsWhole) (arg2 : Memref sig .tc .vmem S256x256 .bf16) (harg2 : arg2.IsWhole)
  (arg3 : Memref sig .tc .vmem S256x13824 .i8) (harg3 : arg3.IsWhole) (arg4 : Memref sig .tc .vmem S256x1 .f32) (harg4 : arg4.IsWhole)
  (arg5 : Memref sig .tc .vmem S256x13824 .f32) (harg5 : arg5.IsWhole)
  (x0 : Vec Ideal S256x13824 .bf16) (x1 : Vec Ideal S256x256 .bf16)

/-- Row `r` of the block. -/
def rowOf (x0 : Vec Ideal S256x13824 .bf16) (r : Fin 256) : Fin 13824 → EReal := fun k => x0 (ix2 r k)

/-- The operand is the two diagonal blocks. -/
def IsTable (x1 : Vec Ideal S256x256 .bf16) : Prop := ∀ y : S256x256.Idx, x1 y = Ideal.ofBits .bf16 (blockBits (y 0).val (y 1).val)

/-- The product of a chunk and the operand, element by element. -/
theorem mm_apply (v b : Vec Ideal S256x256 .bf16) (r j : Fin 256) : mm v b (ix2 r j) = ∑ k : Fin 256, v (ix2 r k) * b (ix2 k j) := by
  unfold mm
  rw [shapeCast_self]
  pointwise

/-- A chunk times the operand is the rotated rows there. -/
theorem mmAt_eq (h1 : IsTable x1) (K : Nat) (hK : K < 54) (r j : Fin 256) :
    mmAt arg1 harg1 x0 (kernelRun0_A.sl.r (F := Ideal) c arg2 harg2 x1) (256 * K) (inbK K hK) (ix2 r j)
      = rot (rowOf x0 r) ⟨256 * K + j.val, by omega⟩ := by
  refine Eq.trans ?_ (rot_of_block (rowOf x0 r) K hK j)
  unfold mmAt
  rw [mm_apply]
  refine Finset.sum_congr rfl fun k _ => ?_
  unfold kernelRun0_A.sl.r
  rw [harg1.readAt_unread, harg2.readAt_unread, h1]
  unfold rowOf
  congr 3
  · funext a
    match a with
    | ⟨0, _⟩ => apply Fin.ext; show 0 + 1 * r.val = r.val; omega
    | ⟨1, _⟩ => apply Fin.ext; show 256 * K + 1 * k.val = 256 * K + k.val; omega
  · show 0 + 1 * k.val = k.val; omega
  · show 0 + 1 * j.val = j.val; omega

/-- The running maximum of the first `n` chunks, element by element, is at most `t` exactly when each chunk's magnitude there is and zero is. -/
theorem accV_le (h1 : IsTable x1) (r j : Fin 256) (t : EReal) : ∀ n, n ≤ 54 →
    (accV arg1 harg1 x0 (kernelRun0_A.sl.r (F := Ideal) c arg2 harg2 x1) n (ix2 r j) ≤ t
      ↔ 0 ≤ t ∧ ∀ K, ∀ h : K < 54, K < n → max (rot (rowOf x0 r) ⟨256 * K + j.val, by omega⟩) (-(rot (rowOf x0 r) ⟨256 * K + j.val, by omega⟩)) ≤ t)
  | 0, _ => by
    have : accV arg1 harg1 x0 (kernelRun0_A.sl.r (F := Ideal) c arg2 harg2 x1) 0 (ix2 r j) = 0 := Ideal.ofBits_zero_f32
    rw [this]
    exact ⟨fun h => ⟨h, fun K _ hK => absurd hK (Nat.not_lt_zero K)⟩, fun h => h.1⟩
  | n + 1, hn => by
    have ih := accV_le h1 r j t n (by omega)
    have hn' : n < 54 := by omega
    have e : accV arg1 harg1 x0 (kernelRun0_A.sl.r (F := Ideal) c arg2 harg2 x1) (n + 1) (ix2 r j)
        = max (accV arg1 harg1 x0 (kernelRun0_A.sl.r (F := Ideal) c arg2 harg2 x1) n (ix2 r j))
          (max (rot (rowOf x0 r) ⟨256 * n + j.val, by omega⟩) (-(rot (rowOf x0 r) ⟨256 * n + j.val, by omega⟩))) := by
      rw [← mmAt_eq c arg1 harg1 arg2 harg2 x0 x1 h1 n hn' r j, accV, dif_pos hn']
      rfl
    rw [e, max_le_iff, ih]
    constructor
    · rintro ⟨⟨h0, ha⟩, hb⟩
      refine ⟨h0, fun K hK hKn => ?_⟩
      rcases Nat.lt_succ_iff_lt_or_eq.mp hKn with h | rfl
      · exact ha K hK h
      · exact hb
    · rintro ⟨h0, ha⟩
      exact ⟨⟨h0, fun K hK hKn => ha K hK (by omega)⟩, ha n hn' (by omega)⟩

/-- The row's maximum of the running maximum is the row's largest magnitude. -/
theorem rowmax_eq (h1 : IsTable x1) (r : Fin 256) :
    (Finset.univ.fold max (⊥ : EReal) fun j : Fin 256 => accV arg1 harg1 x0 (kernelRun0_A.sl.r (F := Ideal) c arg2 harg2 x1) 54 (ix2 r j))
      = amax (rowOf x0 r) := by
  refine eq_of_forall_ge_iff fun t => ?_
  rw [Finset.fold_max_le]
  simp only [accV_le c arg1 harg1 arg2 harg2 x0 x1 h1 r _ t 54 le_rfl]
  unfold amax
  rw [Finset.sup_le_iff]
  constructor
  · rintro ⟨-, h⟩ q -
    have := (h ⟨q.val % 256, by omega⟩ (Finset.mem_univ _)).2 (q.val / 256) (by omega) (by omega)
    have e : (⟨256 * (q.val / 256) + q.val % 256, by omega⟩ : Fin 13824) = q := Fin.ext (by show 256 * (q.val / 256) + q.val % 256 = q.val; omega)
    rw [e] at this
    exact this
  · intro h
    refine ⟨bot_le, fun j _ => ⟨le_trans (amax_nonneg (rowOf x0 r)) (Finset.sup_le h), fun K hK _ => h _ (Finset.mem_univ _)⟩⟩

/-- The rows' scales. -/
theorem scale_value (h1 : IsTable x1) (r : Fin 256) (z : Fin 1) :
    kernelRun0_A.sl.r_21 (F := Ideal) c arg1 harg1 arg2 harg2 x0 x1 (ix2 r z) = scale (rowOf x0 r) := by
  rw [scale_eq]
  unfold scaleV
  pointwise
  rw [show Ideal.ofBits .f32 0xFF800000#32 = (⊥ : EReal) by simp [Ideal.ofBits, Ideal.ieee], rowmax_eq c arg1 harg1 arg2 harg2 x0 x1 h1 r]
  rfl

/-- A chunk's codes. -/
theorem codeV_apply (s : FVec Ideal S256x1 .f32) (v : Vec Ideal S256x256 .f32) (r j : Fin 256) (hs : s (ix2 r (0 : Fin 1)) ≠ 0) :
    codeV s v (ix2 r j) = Ideal.fptosi 8 (clipRound (Ideal.div (v (ix2 r j)) (s (ix2 r (0 : Fin 1))))) := by
  rw [← div_eq_mul_inv _ _ hs]
  unfold codeV clipRound
  pointwise
  rfl

/-- The scratch's contents after the stores: the rotated rows. -/
def rotB (x0 : Vec Ideal S256x13824 .bf16) : Vec Ideal S256x13824 .f32 := fun y => rot (rowOf x0 (y 0)) (y 1)

/-- The block of codes. -/
def codeB (x0 : Vec Ideal S256x13824 .bf16) : Vec Ideal S256x13824 .i8 := fun y => code (rowOf x0 (y 0)) (y 1)

/-- The block of scales. -/
def scaleB (x0 : Vec Ideal S256x13824 .bf16) : Vec Ideal S256x1 .f32 := fun y => scale (rowOf x0 (y 0))

/-- A list of chunks, each a block of one function `G`, has every piece a block of `G`. -/
theorem Chunks.pieces {e : EltTy} (G : S256x13824.Idx → Elt Ideal e)
    {P : (N : Nat) → (∀ a, (![0, N] : Fin 2 → Nat) a + S256x256.size a ≤ S256x13824.size a) → S256x256.Idx → Elt Ideal e}
    (hP : ∀ K (hK : K < 54) (r j : Fin 256), P (256 * K) (inbK K hK) (ix2 r j) = G (ix2 r (⟨256 * K + j.val, by omega⟩ : Fin 13824))) :
    ∀ L : List (View.Piece (Elt Ideal) S256x13824 e), Chunks P L → ∀ p ∈ L, ∀ x : p.1.shape.Idx, p.2 x = G (p.1.emb x)
  | [], _, _, hp, _ => absurd hp List.not_mem_nil
  | q :: L, h, p, hp, x => by
    rcases List.mem_cons.mp hp with rfl | hp
    · obtain ⟨⟨K, hK, rfl⟩, -⟩ := h
      obtain ⟨r, j, rfl⟩ : ∃ r j : Fin 256, x = ix2 r j := ⟨x 0, x 1, by funext a; match a with | ⟨0, _⟩ => rfl | ⟨1, _⟩ => rfl⟩
      refine (hP K hK r j).trans (congrArg G ?_)
      funext a
      match a with
      | ⟨0, _⟩ => apply Fin.ext; show r.val = 0 + 1 * r.val; omega
      | ⟨1, _⟩ => apply Fin.ext; show 256 * K + j.val = 256 * K + 1 * j.val; omega
    · exact Chunks.pieces G hP L h.2 p hp x

/-- A load of a chunk of the scratch reads the rotated rows there. -/
theorem scratch_read (h1 : IsTable x1) (K : Nat) (hK : K < 54) (r j : Fin 256) :
    arg5.view.readCov (kernelRun0_A.sl.HS0_54 (F := Ideal) c arg1 harg1 arg2 harg2 x0 x1)
        (Rect.unit (s := S256x13824) ![0, 256 * K] S256x256.size (inbK K hK)).toLoadRect (ix2 r j)
      = rot (rowOf x0 r) ⟨256 * K + j.val, by omega⟩ := by
  rw [View.readCov_eq_canon']
  refine (View.canon_apply_of_pieces (rotB x0) _ (Chunks.pieces (rotB x0) (fun K hK r j => ?_) _ (scratch_chunks c arg1 harg1 arg2 harg2 x0 x1)) _
    (View.cover_of_tiledL (kernelRun0_A.sl.HS0_54 (F := Ideal) c arg1 harg1 arg2 harg2 x0 x1) S256x256.size (by sl_kernel_rfl) _)).trans ?_
  · show shapeCast S256x256 (mmAt arg1 harg1 x0 (kernelRun0_A.sl.r (F := Ideal) c arg2 harg2 x1) (256 * K) (inbK K hK)) shapeCasts_S256x256_S256x256 (ix2 r j) = _
    rw [shapeCast_self, mmAt_eq c arg1 harg1 arg2 harg2 x0 x1 h1 K hK r j]
    rfl
  · unfold rotB
    congr 1
    · congr 1
      apply Fin.ext; show 0 + 1 * r.val = r.val; omega
    · apply Fin.ext; show 256 * K + 1 * j.val = 256 * K + j.val; omega

/-- What the body leaves in the codes' buffer. -/
theorem out_codes (h1 : IsTable x1) :
    out0_A_2 (F := Ideal) c i arg1 harg1 arg2 harg2 arg3 harg3 arg4 harg4 arg5 harg5 x0 x1 = codeB x0 := by
  funext y
  unfold out0_A_2
  rw [View.read_writes_eq_canon _ _ _ (cover0_A_2 c i arg1 harg1 arg2 harg2 arg3 harg3 arg4 harg4 arg5 harg5 x0 x1)]
  refine View.canon_apply_of_pieces (codeB x0) _ (Chunks.pieces (codeB x0) (fun K hK r j => ?_) _
    (code_chunks c i arg1 harg1 arg2 harg2 arg3 harg3 arg4 harg4 arg5 harg5 x0 x1)) y
    (cover0_A_2 c i arg1 harg1 arg2 harg2 arg3 harg3 arg4 harg4 arg5 harg5 x0 x1 y)
  show codeV _ _ (ix2 r j) = code (rowOf x0 r) ⟨256 * K + j.val, _⟩
  have hs := scale_value c arg1 harg1 arg2 harg2 x0 x1 h1 r 0
  rw [codeV_apply _ _ _ _ (by rw [hs]; exact scale_ne_zero _), hs, scratch_read c arg1 harg1 arg2 harg2 arg5 x0 x1 h1 K hK r j]
  rfl

/-- What the body leaves in the scales' buffer. -/
theorem out_scales (h1 : IsTable x1) :
    out0_A_3 (F := Ideal) c i arg1 harg1 arg2 harg2 arg3 harg3 arg4 harg4 arg5 harg5 x0 x1 = scaleB x0 := by
  unfold out0_A_3
  rw [View.read_writes_eq_canon _ _ _ (cover0_A_3 c i arg1 harg1 arg2 harg2 arg3 harg3 arg4 harg4 arg5 harg5 x0 x1), scale_piece]
  funext y
  rw [View.canon_unit_zero (by funext a; match a with | ⟨0, _⟩ => rfl | ⟨1, _⟩ => rfl)]
  obtain ⟨r, z, rfl⟩ : ∃ (r : Fin 256) (z : Fin 1), y = ix2 r z := ⟨y 0, y 1, by funext a; match a with | ⟨0, _⟩ => rfl | ⟨1, _⟩ => rfl⟩
  exact scale_value c arg1 harg1 arg2 harg2 x0 x1 h1 r z

end Cert.KernelIdeal.Body
end
-- ==== Proof.Regions.lean ====
/-
  The arrays the two regions leave: the codes and the scales of every row, and, where the products' total is in range, the
  scaled product of the codes with the weights.
-/
module

public import proofs.«01_k».proof.Proof.BodyValue
public import Idealize.ShloMosaic.Lib.Pipeline.ValueKit
public import Idealize.ShloMosaic.Lib.IntMxu

@[expose] public section

set_option maxRecDepth 16384

noncomputable section

namespace Cert.KernelIdeal.Regions

open Idealize.ShloMosaic Idealize.SL.Sem
open Cert.KernelIdeal.Gen Cert.Spec Cert.KernelIdeal.Body

variable (V : (c : Dev nD) → (b : Ref sig .tc) → Buf (Elt Ideal) ((c.tc : Thread nD τ).loc b)) (c : Dev nD)

/-- Row `r` of the flattened argument. -/
def flatRow (x : Vec Ideal S6144x13824 .bf16) (r : Fin 6144) : Fin 13824 → EReal := fun k => x (ix2 r k)

/-- The codes of every row. -/
def codesG (x : Vec Ideal S6144x13824 .bf16) : Vec Ideal S6144x13824 .i8 := fun y => code (flatRow x (y 0)) (y 1)

/-- The scales of every row. -/
def scalesG (x : Vec Ideal S6144x13824 .bf16) : Vec Ideal S6144x1 .f32 := fun y => scale (flatRow x (y 0))

/-- Where each window of the first region lies at a point. -/
theorem idx0 : ∀ t : Fin grid0.N, win0_0.index t = ![(grid0.coords t 0).val, 0] ∧ win0_1.index t = ![0, 0]
    ∧ win0_2.index t = ![(grid0.coords t 0).val, 0] ∧ win0_3.index t = ![(grid0.coords t 0).val, 0] := by
  decide +kernel

/-- The operand's block is the printed table. -/
theorem table_block (hT : IsTable (V c main_cst)) (t : Fin grid0.N) : IsTable (iblk0 V c 1 t) := by
  intro y
  have e := (idx0 t).2.1
  blk_simp [iblk0]
  rw [hT]
  have h0 : (((win0_1.blk t).view.emb y) 0 : Nat) = (y 0 : Nat) := by
    rw [show (((win0_1.blk t).view.emb y) 0 : Nat) = win0_1.index t 0 * 256 + (y 0 : Nat) from by blk_simp, e]
    exact (congrArg (· + (y 0 : Nat)) (Nat.zero_mul 256)).trans (Nat.zero_add _)
  have h1 : (((win0_1.blk t).view.emb y) 1 : Nat) = (y 1 : Nat) := by
    rw [show (((win0_1.blk t).view.emb y) 1 : Nat) = win0_1.index t 1 * 256 + (y 1 : Nat) from by blk_simp, e]
    exact (congrArg (· + (y 1 : Nat)) (Nat.zero_mul 256)).trans (Nat.zero_add _)
  rw [h0, h1]

/-- The first region leaves the codes of every row. -/
theorem arr_codes (hT : IsTable (V c main_cst)) : (dat0 V c).arrAt 2 cfg0.N = codesG (V c main_v0) := by
  refine (dat0 V c).arrAt_eq_of_covers 2 _ (by decide +kernel) fun t hf y => ?_
  blk_simp
  rw [after0_2]
  unfold outsAt0
  rw [out_codes _ _ _ _ _ _ _ _ _ _ _ _ _ _ (table_block V c hT t)]
  obtain ⟨e0, -, e2, -⟩ := idx0 t
  show code (rowOf (iblk0 V c 0 t) (y 0)) (y 1) = code (flatRow (V c main_v0) _) _
  congr 1
  · funext k
    unfold rowOf flatRow
    blk_ext [iblk0, e0, e2]
  · apply Fin.ext
    blk_simp [e2]

/-- The first region leaves the scale of every row. -/
theorem arr_scales (hT : IsTable (V c main_cst)) : (dat0 V c).arrAt 3 cfg0.N = scalesG (V c main_v0) := by
  refine (dat0 V c).arrAt_eq_of_covers 3 _ (by decide +kernel) fun t hf y => ?_
  blk_simp
  rw [after0_3]
  unfold outsAt0
  rw [out_scales _ _ _ _ _ _ _ _ _ _ _ _ _ _ (table_block V c hT t)]
  obtain ⟨e0, -, -, e3⟩ := idx0 t
  show scale (rowOf (iblk0 V c 0 t) (y 0)) = scale (flatRow (V c main_v0) _)
  congr 1
  funext k
  unfold rowOf flatRow
  blk_ext [iblk0, e0, e3]

/-- The total of the magnitudes of a row's products with a column. -/
def total (X W : Fin 13824 → BitVec 8) : Nat := ∑ k, ((X k).toInt * (W k).toInt).natAbs

/-- The sum of a row's products with a column. -/
def dot (X W : Fin 13824 → BitVec 8) : Int := ∑ k, (X k).toInt * (W k).toInt

/-- The left operand's element a product reads. -/
theorem lhs_at (r j : Fin 512) (k : Fin 13824) :
    dot_S512x13824_S13824x512_S512x512_1_0_0_1_n_n.lhsIdx (ix2 r j) (DotDims.contrIdx₁ _ (a := 1) rfl (K := 13824) rfl k) = ix2 r k := by
  funext a
  match a with
  | ⟨0, _⟩ => rfl
  | ⟨1, _⟩ => rfl

/-- The right operand's element a product reads. -/
theorem rhs_at (r j : Fin 512) (k : Fin 13824) :
    dot_S512x13824_S13824x512_S512x512_1_0_0_1_n_n.rhsIdx (ix2 r j) (DotDims.contrIdx₁ _ (a := 1) rfl (K := 13824) rfl k) = ix2 k j := by
  funext a
  match a with
  | ⟨0, _⟩ => rfl
  | ⟨1, _⟩ => rfl

/-- The second body's stored element, where the products' total is in range. -/
theorem pay_value (v0 : Vec Ideal S512x13824 .i8) (v2 : Vec Ideal S13824x512 .i8) (v5 : Vec Ideal S512x1 .f32) (v9 : Vec Ideal S1x512 .f32)
    (r j : Fin 512) (h : total (fun k => v0 (ix2 r k)) (fun k => v2 (ix2 k j)) ≤ 16777215) :
    k1_pay1 v0 v2 v5 v9 (ix2 r j)
      = (((dot (fun k => v0 (ix2 r k)) (fun k => v2 (ix2 k j)) : ℤ) : ℝ) : EReal) * v5 (ix2 r 0) * v9 (ix2 0 j) := by
  have hS : absDotI8 dot_S512x13824_S13824x512_S512x512_1_0_0_1_n_n v0 v2 (ix2 r j) ≤ IntMxuNumerics.v7x.exactUpTo := by
    unfold absDotI8
    rw [DotDims.sum_contr₁ _ (a := 1) rfl (K := 13824) rfl]
    simp only [lhs_at, rhs_at]
    exact h
  have hd := matmulI8_toInt IntMxuNumerics.v7x dot_S512x13824_S13824x512_S512x512_1_0_0_1_n_n v0 v2 (constantI S512x512 32 0#32)
    (ix2 r j) rfl hS
  unfold dotI8 at hd
  rw [DotDims.sum_contr₁ _ (a := 1) rfl (K := 13824) rfl] at hd
  simp only [lhs_at, rhs_at] at hd
  unfold k1_pay1
  simp only [shapeCast_self]
  pointwise
  show ((((matmulI8 IntMxuNumerics.v7x dot_S512x13824_S13824x512_S512x512_1_0_0_1_n_n v0 v2 (constantI S512x512 32 0#32)
    (ix2 r j)).toInt : ℤ) : ℝ) : EReal) * _ * _ = _
  rw [hd]
  rfl

/-- Where each window of the second region lies at a point. -/
theorem idx1 : ∀ t : Fin grid1.N, win1_0.index t = ![(grid1.coords t 0).val, 0] ∧ win1_1.index t = ![0, (grid1.coords t 1).val]
    ∧ win1_2.index t = ![(grid1.coords t 0).val, 0] ∧ win1_3.index t = ![0, (grid1.coords t 1).val]
    ∧ win1_4.index t = ![(grid1.coords t 0).val, (grid1.coords t 1).val] := by
  decide +kernel

/-- What the second region leaves at an element, where the products' total is in range. -/
theorem arr_out (i : S6144x5120.Idx)
    (h : total (fun k => (V c main_v1_0 : Vec Ideal S6144x13824 .i8) (ix2 (i 0) k)) (fun k => (V c main_arg1 : Vec Ideal S13824x5120 .i8) (ix2 k (i 1))) ≤ 16777215) :
    ((dat1 V c).arrAt 4 cfg1.N : Vec Ideal S6144x5120 .bf16) i
      = (((dot (fun k => (V c main_v1_0 : Vec Ideal S6144x13824 .i8) (ix2 (i 0) k))
          (fun k => (V c main_arg1 : Vec Ideal S13824x5120 .i8) (ix2 k (i 1))) : ℤ) : ℝ) : EReal)
        * (V c main_v1_1 : Vec Ideal S6144x1 .f32) (ix2 (i 0) 0) * (V c main_v2 : Vec Ideal S1x5120 .f32) (ix2 0 (i 1)) := by
  revert h
  refine (dat1 V c).arrAt_forall_of_covers 4 (fun (i : S6144x5120.Idx) (v : EReal) =>
      total (fun k => (V c main_v1_0 : Vec Ideal S6144x13824 .i8) (ix2 (i 0) k)) (fun k => (V c main_arg1 : Vec Ideal S13824x5120 .i8) (ix2 k (i 1))) ≤ 16777215 →
      v = (((dot (fun k => (V c main_v1_0 : Vec Ideal S6144x13824 .i8) (ix2 (i 0) k))
          (fun k => (V c main_arg1 : Vec Ideal S13824x5120 .i8) (ix2 k (i 1))) : ℤ) : ℝ) : EReal)
        * (V c main_v1_1 : Vec Ideal S6144x1 .f32) (ix2 (i 0) 0) * (V c main_v2 : Vec Ideal S1x5120 .f32) (ix2 0 (i 1)))
    (by decide +kernel) (fun t hf y => ?_) i
  obtain ⟨e0, e1, e2, e3, e4⟩ := idx1 t
  have hX : ∀ k : Fin 13824, (iblk1 V c 0 t : Vec Ideal S512x13824 .i8) (ix2 (y 0) k)
      = (V c main_v1_0 : Vec Ideal S6144x13824 .i8) (ix2 ((win1_4.blk t).view.emb y 0) k) := fun k => by blk_ext [iblk1, e0, e4]
  have hW : ∀ k : Fin 13824, (iblk1 V c 1 t : Vec Ideal S13824x512 .i8) (ix2 k (y 1))
      = (V c main_arg1 : Vec Ideal S13824x5120 .i8) (ix2 k ((win1_4.blk t).view.emb y 1)) := fun k => by blk_ext [iblk1, e1, e4]
  have hs : (iblk1 V c 2 t : Vec Ideal S512x1 .f32) (ix2 (y 0) 0)
      = (V c main_v1_1 : Vec Ideal S6144x1 .f32) (ix2 ((win1_4.blk t).view.emb y 0) 0) := by blk_ext [iblk1, e2, e4]
  have hw : (iblk1 V c 3 t : Vec Ideal S1x512 .f32) (ix2 0 (y 1))
      = (V c main_v2 : Vec Ideal S1x5120 .f32) (ix2 0 ((win1_4.blk t).view.emb y 1)) := by blk_ext [iblk1, e3, e4]
  intro h
  blk_simp
  rw [after1_4]
  frame_out
  have hy : y = ix2 (y 0) (y 1) := by
    funext a
    match a with
    | ⟨0, _⟩ => rfl
    | ⟨1, _⟩ => rfl
  rw [hy]
  refine (pay_value _ _ _ _ _ _ ?_).trans ?_
  · simp only [hX, hW]
    exact h
  · simp only [hX, hW, hs, hw]
    rfl

end Cert.KernelIdeal.Regions
end
-- ==== Proof.TableKernel.lean ====
/-
  The kernel's printed 256 × 256 table is the Hadamard matrix twice on the diagonal, zero elsewhere.
-/
module
public import proofs.«01_k».proof.KernelIdeal
public import proofs.«01_k».proof.Proof.Bits
public import Idealize.ShloMosaic.Lib.Tactic
@[expose] public section
set_option maxRecDepth 100000
noncomputable section
namespace Cert.Spec
open Idealize.ShloMosaic

/-- Half-row `c` of the operand (row `c / 2`, columns `128 * (c % 2)` on), entry by entry. -/
def krow (c j : Nat) : BitVec 16 := match j with
  | 0 => blockBits (c / 2) (128 * (c % 2) + 0)
  | 1 => blockBits (c / 2) (128 * (c % 2) + 1)
  | 2 => blockBits (c / 2) (128 * (c % 2) + 2)
  | 3 => blockBits (c / 2) (128 * (c % 2) + 3)
  | 4 => blockBits (c / 2) (128 * (c % 2) + 4)
  | 5 => blockBits (c / 2) (128 * (c % 2) + 5)
  | 6 => blockBits (c / 2) (128 * (c % 2) + 6)
  | 7 => blockBits (c / 2) (128 * (c % 2) + 7)
  | 8 => blockBits (c / 2) (128 * (c % 2) + 8)
  | 9 => blockBits (c / 2) (128 * (c % 2) + 9)
  | 10 => blockBits (c / 2) (128 * (c % 2) + 10)
  | 11 => blockBits (c / 2) (128 * (c % 2) + 11)
  | 12 => blockBits (c / 2) (128 * (c % 2) + 12)
  | 13 => blockBits (c / 2) (128 * (c % 2) + 13)
  | 14 => blockBits (c / 2) (128 * (c % 2) + 14)
  | 15 => blockBits (c / 2) (128 * (c % 2) + 15)
  | 16 => blockBits (c / 2) (128 * (c % 2) + 16)
  | 17 => blockBits (c / 2) (128 * (c % 2) + 17)
  | 18 => blockBits (c / 2) (128 * (c % 2) + 18)
  | 19 => blockBits (c / 2) (128 * (c % 2) + 19)
  | 20 => blockBits (c / 2) (128 * (c % 2) + 20)
  | 21 => blockBits (c / 2) (128 * (c % 2) + 21)
  | 22 => blockBits (c / 2) (128 * (c % 2) + 22)
  | 23 => blockBits (c / 2) (128 * (c % 2) + 23)
  | 24 => blockBits (c / 2) (128 * (c % 2) + 24)
  | 25 => blockBits (c / 2) (128 * (c % 2) + 25)
  | 26 => blockBits (c / 2) (128 * (c % 2) + 26)
  | 27 => blockBits (c / 2) (128 * (c % 2) + 27)
  | 28 => blockBits (c / 2) (128 * (c % 2) + 28)
  | 29 => blockBits (c / 2) (128 * (c % 2) + 29)
  | 30 => blockBits (c / 2) (128 * (c % 2) + 30)
  | 31 => blockBits (c / 2) (128 * (c % 2) + 31)
  | 32 => blockBits (c / 2) (128 * (c % 2) + 32)
  | 33 => blockBits (c / 2) (128 * (c % 2) + 33)
  | 34 => blockBits (c / 2) (128 * (c % 2) + 34)
  | 35 => blockBits (c / 2) (128 * (c % 2) + 35)
  | 36 => blockBits (c / 2) (128 * (c % 2) + 36)
  | 37 => blockBits (c / 2) (128 * (c % 2) + 37)
  | 38 => blockBits (c / 2) (128 * (c % 2) + 38)
  | 39 => blockBits (c / 2) (128 * (c % 2) + 39)
  | 40 => blockBits (c / 2) (128 * (c % 2) + 40)
  | 41 => blockBits (c / 2) (128 * (c % 2) + 41)
  | 42 => blockBits (c / 2) (128 * (c % 2) + 42)
  | 43 => blockBits (c / 2) (128 * (c % 2) + 43)
  | 44 => blockBits (c / 2) (128 * (c % 2) + 44)
  | 45 => blockBits (c / 2) (128 * (c % 2) + 45)
  | 46 => blockBits (c / 2) (128 * (c % 2) + 46)
  | 47 => blockBits (c / 2) (128 * (c % 2) + 47)
  | 48 => blockBits (c / 2) (128 * (c % 2) + 48)
  | 49 => blockBits (c / 2) (128 * (c % 2) + 49)
  | 50 => blockBits (c / 2) (128 * (c % 2) + 50)
  | 51 => blockBits (c / 2) (128 * (c % 2) + 51)
  | 52 => blockBits (c / 2) (128 * (c % 2) + 52)
  | 53 => blockBits (c / 2) (128 * (c % 2) + 53)
  | 54 => blockBits (c / 2) (128 * (c % 2) + 54)
  | 55 => blockBits (c / 2) (128 * (c % 2) + 55)
  | 56 => blockBits (c / 2) (128 * (c % 2) + 56)
  | 57 => blockBits (c / 2) (128 * (c % 2) + 57)
  | 58 => blockBits (c / 2) (128 * (c % 2) + 58)
  | 59 => blockBits (c / 2) (128 * (c % 2) + 59)
  | 60 => blockBits (c / 2) (128 * (c % 2) + 60)
  | 61 => blockBits (c / 2) (128 * (c % 2) + 61)
  | 62 => blockBits (c / 2) (128 * (c % 2) + 62)
  | 63 => blockBits (c / 2) (128 * (c % 2) + 63)
  | 64 => blockBits (c / 2) (128 * (c % 2) + 64)
  | 65 => blockBits (c / 2) (128 * (c % 2) + 65)
  | 66 => blockBits (c / 2) (128 * (c % 2) + 66)
  | 67 => blockBits (c / 2) (128 * (c % 2) + 67)
  | 68 => blockBits (c / 2) (128 * (c % 2) + 68)
  | 69 => blockBits (c / 2) (128 * (c % 2) + 69)
  | 70 => blockBits (c / 2) (128 * (c % 2) + 70)
  | 71 => blockBits (c / 2) (128 * (c % 2) + 71)
  | 72 => blockBits (c / 2) (128 * (c % 2) + 72)
  | 73 => blockBits (c / 2) (128 * (c % 2) + 73)
  | 74 => blockBits (c / 2) (128 * (c % 2) + 74)
  | 75 => blockBits (c / 2) (128 * (c % 2) + 75)
  | 76 => blockBits (c / 2) (128 * (c % 2) + 76)
  | 77 => blockBits (c / 2) (128 * (c % 2) + 77)
  | 78 => blockBits (c / 2) (128 * (c % 2) + 78)
  | 79 => blockBits (c / 2) (128 * (c % 2) + 79)
  | 80 => blockBits (c / 2) (128 * (c % 2) + 80)
  | 81 => blockBits (c / 2) (128 * (c % 2) + 81)
  | 82 => blockBits (c / 2) (128 * (c % 2) + 82)
  | 83 => blockBits (c / 2) (128 * (c % 2) + 83)
  | 84 => blockBits (c / 2) (128 * (c % 2) + 84)
  | 85 => blockBits (c / 2) (128 * (c % 2) + 85)
  | 86 => blockBits (c / 2) (128 * (c % 2) + 86)
  | 87 => blockBits (c / 2) (128 * (c % 2) + 87)
  | 88 => blockBits (c / 2) (128 * (c % 2) + 88)
  | 89 => blockBits (c / 2) (128 * (c % 2) + 89)
  | 90 => blockBits (c / 2) (128 * (c % 2) + 90)
  | 91 => blockBits (c / 2) (128 * (c % 2) + 91)
  | 92 => blockBits (c / 2) (128 * (c % 2) + 92)
  | 93 => blockBits (c / 2) (128 * (c % 2) + 93)
  | 94 => blockBits (c / 2) (128 * (c % 2) + 94)
  | 95 => blockBits (c / 2) (128 * (c % 2) + 95)
  | 96 => blockBits (c / 2) (128 * (c % 2) + 96)
  | 97 => blockBits (c / 2) (128 * (c % 2) + 97)
  | 98 => blockBits (c / 2) (128 * (c % 2) + 98)
  | 99 => blockBits (c / 2) (128 * (c % 2) + 99)
  | 100 => blockBits (c / 2) (128 * (c % 2) + 100)
  | 101 => blockBits (c / 2) (128 * (c % 2) + 101)
  | 102 => blockBits (c / 2) (128 * (c % 2) + 102)
  | 103 => blockBits (c / 2) (128 * (c % 2) + 103)
  | 104 => blockBits (c / 2) (128 * (c % 2) + 104)
  | 105 => blockBits (c / 2) (128 * (c % 2) + 105)
  | 106 => blockBits (c / 2) (128 * (c % 2) + 106)
  | 107 => blockBits (c / 2) (128 * (c % 2) + 107)
  | 108 => blockBits (c / 2) (128 * (c % 2) + 108)
  | 109 => blockBits (c / 2) (128 * (c % 2) + 109)
  | 110 => blockBits (c / 2) (128 * (c % 2) + 110)
  | 111 => blockBits (c / 2) (128 * (c % 2) + 111)
  | 112 => blockBits (c / 2) (128 * (c % 2) + 112)
  | 113 => blockBits (c / 2) (128 * (c % 2) + 113)
  | 114 => blockBits (c / 2) (128 * (c % 2) + 114)
  | 115 => blockBits (c / 2) (128 * (c % 2) + 115)
  | 116 => blockBits (c / 2) (128 * (c % 2) + 116)
  | 117 => blockBits (c / 2) (128 * (c % 2) + 117)
  | 118 => blockBits (c / 2) (128 * (c % 2) + 118)
  | 119 => blockBits (c / 2) (128 * (c % 2) + 119)
  | 120 => blockBits (c / 2) (128 * (c % 2) + 120)
  | 121 => blockBits (c / 2) (128 * (c % 2) + 121)
  | 122 => blockBits (c / 2) (128 * (c % 2) + 122)
  | 123 => blockBits (c / 2) (128 * (c % 2) + 123)
  | 124 => blockBits (c / 2) (128 * (c % 2) + 124)
  | 125 => blockBits (c / 2) (128 * (c % 2) + 125)
  | 126 => blockBits (c / 2) (128 * (c % 2) + 126)
  | 127 => blockBits (c / 2) (128 * (c % 2) + 127)
  | _ => 0x0000#16

/-- A quarter of the operand, half-row by half-row. -/
def kpat (q c j : Nat) : BitVec 16 := match c with
  | 0 => krow (128 * q + 0) j
  | 1 => krow (128 * q + 1) j
  | 2 => krow (128 * q + 2) j
  | 3 => krow (128 * q + 3) j
  | 4 => krow (128 * q + 4) j
  | 5 => krow (128 * q + 5) j
  | 6 => krow (128 * q + 6) j
  | 7 => krow (128 * q + 7) j
  | 8 => krow (128 * q + 8) j
  | 9 => krow (128 * q + 9) j
  | 10 => krow (128 * q + 10) j
  | 11 => krow (128 * q + 11) j
  | 12 => krow (128 * q + 12) j
  | 13 => krow (128 * q + 13) j
  | 14 => krow (128 * q + 14) j
  | 15 => krow (128 * q + 15) j
  | 16 => krow (128 * q + 16) j
  | 17 => krow (128 * q + 17) j
  | 18 => krow (128 * q + 18) j
  | 19 => krow (128 * q + 19) j
  | 20 => krow (128 * q + 20) j
  | 21 => krow (128 * q + 21) j
  | 22 => krow (128 * q + 22) j
  | 23 => krow (128 * q + 23) j
  | 24 => krow (128 * q + 24) j
  | 25 => krow (128 * q + 25) j
  | 26 => krow (128 * q + 26) j
  | 27 => krow (128 * q + 27) j
  | 28 => krow (128 * q + 28) j
  | 29 => krow (128 * q + 29) j
  | 30 => krow (128 * q + 30) j
  | 31 => krow (128 * q + 31) j
  | 32 => krow (128 * q + 32) j
  | 33 => krow (128 * q + 33) j
  | 34 => krow (128 * q + 34) j
  | 35 => krow (128 * q + 35) j
  | 36 => krow (128 * q + 36) j
  | 37 => krow (128 * q + 37) j
  | 38 => krow (128 * q + 38) j
  | 39 => krow (128 * q + 39) j
  | 40 => krow (128 * q + 40) j
  | 41 => krow (128 * q + 41) j
  | 42 => krow (128 * q + 42) j
  | 43 => krow (128 * q + 43) j
  | 44 => krow (128 * q + 44) j
  | 45 => krow (128 * q + 45) j
  | 46 => krow (128 * q + 46) j
  | 47 => krow (128 * q + 47) j
  | 48 => krow (128 * q + 48) j
  | 49 => krow (128 * q + 49) j
  | 50 => krow (128 * q + 50) j
  | 51 => krow (128 * q + 51) j
  | 52 => krow (128 * q + 52) j
  | 53 => krow (128 * q + 53) j
  | 54 => krow (128 * q + 54) j
  | 55 => krow (128 * q + 55) j
  | 56 => krow (128 * q + 56) j
  | 57 => krow (128 * q + 57) j
  | 58 => krow (128 * q + 58) j
  | 59 => krow (128 * q + 59) j
  | 60 => krow (128 * q + 60) j
  | 61 => krow (128 * q + 61) j
  | 62 => krow (128 * q + 62) j
  | 63 => krow (128 * q + 63) j
  | 64 => krow (128 * q + 64) j
  | 65 => krow (128 * q + 65) j
  | 66 => krow (128 * q + 66) j
  | 67 => krow (128 * q + 67) j
  | 68 => krow (128 * q + 68) j
  | 69 => krow (128 * q + 69) j
  | 70 => krow (128 * q + 70) j
  | 71 => krow (128 * q + 71) j
  | 72 => krow (128 * q + 72) j
  | 73 => krow (128 * q + 73) j
  | 74 => krow (128 * q + 74) j
  | 75 => krow (128 * q + 75) j
  | 76 => krow (128 * q + 76) j
  | 77 => krow (128 * q + 77) j
  | 78 => krow (128 * q + 78) j
  | 79 => krow (128 * q + 79) j
  | 80 => krow (128 * q + 80) j
  | 81 => krow (128 * q + 81) j
  | 82 => krow (128 * q + 82) j
  | 83 => krow (128 * q + 83) j
  | 84 => krow (128 * q + 84) j
  | 85 => krow (128 * q + 85) j
  | 86 => krow (128 * q + 86) j
  | 87 => krow (128 * q + 87) j
  | 88 => krow (128 * q + 88) j
  | 89 => krow (128 * q + 89) j
  | 90 => krow (128 * q + 90) j
  | 91 => krow (128 * q + 91) j
  | 92 => krow (128 * q + 92) j
  | 93 => krow (128 * q + 93) j
  | 94 => krow (128 * q + 94) j
  | 95 => krow (128 * q + 95) j
  | 96 => krow (128 * q + 96) j
  | 97 => krow (128 * q + 97) j
  | 98 => krow (128 * q + 98) j
  | 99 => krow (128 * q + 99) j
  | 100 => krow (128 * q + 100) j
  | 101 => krow (128 * q + 101) j
  | 102 => krow (128 * q + 102) j
  | 103 => krow (128 * q + 103) j
  | 104 => krow (128 * q + 104) j
  | 105 => krow (128 * q + 105) j
  | 106 => krow (128 * q + 106) j
  | 107 => krow (128 * q + 107) j
  | 108 => krow (128 * q + 108) j
  | 109 => krow (128 * q + 109) j
  | 110 => krow (128 * q + 110) j
  | 111 => krow (128 * q + 111) j
  | 112 => krow (128 * q + 112) j
  | 113 => krow (128 * q + 113) j
  | 114 => krow (128 * q + 114) j
  | 115 => krow (128 * q + 115) j
  | 116 => krow (128 * q + 116) j
  | 117 => krow (128 * q + 117) j
  | 118 => krow (128 * q + 118) j
  | 119 => krow (128 * q + 119) j
  | 120 => krow (128 * q + 120) j
  | 121 => krow (128 * q + 121) j
  | 122 => krow (128 * q + 122) j
  | 123 => krow (128 * q + 123) j
  | 124 => krow (128 * q + 124) j
  | 125 => krow (128 * q + 125) j
  | 126 => krow (128 * q + 126) j
  | 127 => krow (128 * q + 127) j
  | _ => 0x0000#16

/-- The operand, quarter by quarter. -/
def ktop (q c j : Nat) : BitVec 16 := match q with
  | 0 => kpat 0 c j
  | 1 => kpat 1 c j
  | 2 => kpat 2 c j
  | 3 => kpat 3 c j
  | _ => 0x0000#16

/-- The printed table is the operand, entry by entry. -/
theorem kernel_lit : Cert.KernelIdeal.lit0t = fun i => ktop (i / 16384) (i / 128 % 128) (i % 128) := by
  sl_kernel_rfl

/-- An entry of a half-row is the closed form. -/
theorem krow_eq (c j : Nat) (h : j < 128) : krow c j = blockBits (c / 2) (128 * (c % 2) + j) := by
  interval_cases j <;> rfl

/-- An entry of a quarter is its half-row's. -/
theorem kpat_eq (q c j : Nat) (hc : c < 128) : kpat q c j = krow (128 * q + c) j := by
  interval_cases c <;> rfl

/-- An entry of the operand is its quarter's. -/
theorem ktop_eq (q c j : Nat) (hq : q < 4) : ktop q c j = kpat q c j := by
  interval_cases q <;> rfl

/-- Entry `(k, j)` of the printed table. -/
theorem kernel_table (k j : Nat) (hk : k < 256) (hj : j < 256) (h : 256 * k + j < 65536) :
    Cert.KernelIdeal.lit0 ⟨256 * k + j, h⟩ = blockBits k j := by
  show Cert.KernelIdeal.lit0t (256 * k + j) = _
  rw [kernel_lit]
  show ktop ((256 * k + j) / 16384) ((256 * k + j) / 128 % 128) ((256 * k + j) % 128) = _
  rw [ktop_eq _ _ _ (by omega), kpat_eq _ _ _ (by omega), krow_eq _ _ (by omega)]
  congr 1 <;> omega

end Cert.Spec
end
-- ==== Proof.Run.lean ====
/-
  The kernel's three results after its run, as functions of the arguments.
-/
module

public import proofs.«01_k».proof.Proof.Regions
public import proofs.«01_k».proof.Proof.TableKernel

@[expose] public section

set_option maxRecDepth 16384

noncomputable section

namespace Cert.KernelIdeal.Value

open Idealize.ShloMosaic Idealize.SL Idealize.SL.Sem
open Cert.KernelIdeal.Gen Cert.Spec Cert.KernelIdeal.Body Cert.KernelIdeal.Regions

/-- Row `s` of batch `b` of the argument. -/
def row (x : Vec Ideal S3x2048x13824 .bf16) (b : Fin 3) (s : Fin 2048) : Fin 13824 → EReal := fun k => x (ix3 b s k)

/-- Column `j` of the weights. -/
def col (w : Vec Ideal S13824x5120 .i8) (j : Fin 5120) : Fin 13824 → BitVec 8 := fun k => w (ix2 k j)

variable (m : (ℓ : Loc nD τ sig) → Buf (Elt Ideal) ℓ) (ρ : Dev nD → PrngReg) (c : Dev nD)

/-- The first argument on a device. -/
abbrev argX : Vec Ideal S3x2048x13824 .bf16 := m ((c.tc : Thread nD τ).loc main_arg0)
/-- The weights' codes on a device. -/
abbrev argW : Vec Ideal S13824x5120 .i8 := m ((c.tc : Thread nD τ).loc main_arg1)
/-- The weights' scales on a device. -/
abbrev argS : Vec Ideal S5120 .f32 := m ((c.tc : Thread nD τ).loc main_arg2)

/-- The row-major position of an index of a matrix. -/
theorem pos2 (y : S256x256.Idx) : (S256x256.rowMajor y).val = 256 * (y 0).val + (y 1).val := by
  show (Shape.rowMajorPi ![256, 256] y).val = _
  show (y 0).val * 256 + ((y 1).val * 1 + 0) = _
  omega

/-- The operand the first region finds, from the host line. -/
theorem entry_cst : (V1 m ρ c main_cst : Vec Ideal S256x256 .bf16) = fun i => Ideal.ofBits .bf16 (lit0 (S256x256.rowMajor i)) := by
  show StableHlo.after hostOps0 (W0 m ρ c) (Proc.devRef .tc main_cst) = _
  entry_read
  rfl

/-- The flattened argument, from the host line. -/
theorem entry_flat : (V1 m ρ c main_v0 : Vec Ideal S6144x13824 .bf16)
    = shapeCast S6144x13824 (argX m c) shapeCasts_S3x2048x13824_S6144x13824 := by
  show StableHlo.after hostOps0 (W0 m ρ c) (Proc.devRef .tc main_v0) = _
  entry_read
  rfl

/-- The flattened weights' scales, from the host line. -/
theorem entry_scales : (V3 m ρ c main_v2 : Vec Ideal S1x5120 .f32) = shapeCast S1x5120 (argS m c) shapeCasts_S5120_S1x5120 := by
  rw [show argS m c = W2 m ρ c (Proc.devRef .tc main_arg2) from (W2_args m ρ c main_arg2 (by decide)).symm]
  show StableHlo.after hostOps1 (W2 m ρ c) (Proc.devRef .tc main_v2) = _
  entry_read
  rfl

/-- The last host line's three reshapes. -/
theorem exit_out : (W5 m ρ c (Proc.devRef .tc main_v4) : Vec Ideal S3x2048x5120 .bf16)
    = shapeCast S3x2048x5120 (W4 m ρ c (Proc.devRef .tc main_v3) : Vec Ideal S6144x5120 .bf16) shapeCasts_S6144x5120_S3x2048x5120 := by
  show StableHlo.after hostOps2 (W4 m ρ c) (Proc.devRef .tc main_v4) = _
  entry_read
  rfl

/-- At the end, the codes' result is the first call's array of codes, reshaped. -/
theorem exit_codes : (W5 m ρ c (Proc.devRef .tc main_v5) : Vec Ideal S3x2048x13824 .i8)
    = shapeCast S3x2048x13824 (W4 m ρ c (Proc.devRef .tc main_v1_0) : Vec Ideal S6144x13824 .i8) shapeCasts_S6144x13824_S3x2048x13824 := by
  show StableHlo.after hostOps2 (W4 m ρ c) (Proc.devRef .tc main_v5) = _
  entry_read
  rfl

/-- At the end, the scales' result is the first call's array of scales, reshaped. -/
theorem exit_scales : (W5 m ρ c (Proc.devRef .tc main_v6) : Vec Ideal S3x2048x1 .f32)
    = shapeCast S3x2048x1 (W4 m ρ c (Proc.devRef .tc main_v1_1) : Vec Ideal S6144x1 .f32) shapeCasts_S6144x1_S3x2048x1 := by
  show StableHlo.after hostOps2 (W4 m ρ c) (Proc.devRef .tc main_v6) = _
  entry_read
  rfl

/-- The operand the first region finds is the printed table. -/
theorem entry_table : IsTable (V1 m ρ c main_cst) := by
  intro y
  rw [entry_cst]
  have h0 : (y 0).val < 256 := (y 0).isLt
  have h1 : (y 1).val < 256 := (y 1).isLt
  have h2 : 256 * (y 0).val + (y 1).val < 65536 := by omega
  have e : (S256x256.rowMajor y) = (⟨256 * (y 0).val + (y 1).val, h2⟩ : Fin 65536) := Fin.ext (pos2 y)
  show Ideal.ofBits .bf16 (lit0 (S256x256.rowMajor y)) = _
  rw [e, kernel_table _ _ h0 h1]

/-- The flattened argument's row `2048 b + s` is row `s` of batch `b`. -/
theorem entry_row (b : Fin 3) (s : Fin 2048) (r : Fin 6144) (hr : r.val = b.val * 2048 + s.val) :
    flatRow (V1 m ρ c main_v0) r = row (argX m c) b s := by
  funext k
  unfold flatRow row
  rw [entry_flat]
  pointwise
  have hb : (⟨r.val / 2048, by omega⟩ : Fin 3) = b := Fin.ext (by show r.val / 2048 = b.val; omega)
  have hs : (⟨r.val % 2048, by omega⟩ : Fin 2048) = s := Fin.ext (by show r.val % 2048 = s.val; omega)
  rw [hb, hs]

/-- The codes the first region leaves, kept to the end. -/
theorem codes_end : (W4 m ρ c (Proc.devRef .tc main_v1_0) : Vec Ideal S6144x13824 .i8) = codesG (V1 m ρ c main_v0) :=
  (W4_of m ρ c main_v1_0 (by decide)).trans <| (W3_of m ρ c main_v1_0 (by decide)).trans <|
    (W2_arr m ρ c 2).trans (arr_codes _ c (entry_table m ρ c))

/-- The scales the first region leaves, kept to the end. -/
theorem scales_end : (W4 m ρ c (Proc.devRef .tc main_v1_1) : Vec Ideal S6144x1 .f32) = scalesG (V1 m ρ c main_v0) :=
  (W4_of m ρ c main_v1_1 (by decide)).trans <| (W3_of m ρ c main_v1_1 (by decide)).trans <|
    (W2_arr m ρ c 3).trans (arr_scales _ c (entry_table m ρ c))

/-- The same arrays as the second region finds them. -/
theorem codes_mid : (V3 m ρ c main_v1_0 : Vec Ideal S6144x13824 .i8) = codesG (V1 m ρ c main_v0) :=
  (W3_of m ρ c main_v1_0 (by decide)).trans <| (W2_arr m ρ c 2).trans (arr_codes _ c (entry_table m ρ c))

/-- The second call finds the scales that the first call left. -/
theorem scales_mid : (V3 m ρ c main_v1_1 : Vec Ideal S6144x1 .f32) = scalesG (V1 m ρ c main_v0) :=
  (W3_of m ρ c main_v1_1 (by decide)).trans <| (W2_arr m ρ c 3).trans (arr_scales _ c (entry_table m ρ c))

/-- The second call finds the weights' codes unchanged. -/
theorem weights_mid : (V3 m ρ c main_arg1 : Vec Ideal S13824x5120 .i8) = argW m c := W3_args m ρ c main_arg1 (by decide)

/-- The kernel's codes. -/
theorem codes_value (b : Fin 3) (s : Fin 2048) (k : Fin 13824) :
    (W5 m ρ c (Proc.devRef .tc main_v5) : Vec Ideal S3x2048x13824 .i8) (ix3 b s k) = code (row (argX m c) b s) k := by
  rw [exit_codes, codes_end]
  pointwise
  show code (flatRow (V1 m ρ c main_v0) ⟨b.val * 2048 + s.val, _⟩) k = _
  rw [entry_row m ρ c b s _ rfl]

/-- The kernel's scales. -/
theorem scales_value (b : Fin 3) (s : Fin 2048) (z : Fin 1) :
    (W5 m ρ c (Proc.devRef .tc main_v6) : Vec Ideal S3x2048x1 .f32) (ix3 b s z) = scale (row (argX m c) b s) := by
  rw [exit_scales, scales_end]
  pointwise
  show scale (flatRow (V1 m ρ c main_v0) ⟨b.val * 2048 + s.val, _⟩) = _
  rw [entry_row m ρ c b s _ rfl]

/-- The kernel's output, where the products' total is in range. -/
theorem out_value (b : Fin 3) (s : Fin 2048) (j : Fin 5120)
    (h : total (code (row (argX m c) b s)) (col (argW m c) j) ≤ 16777215) :
    (W5 m ρ c (Proc.devRef .tc main_v4) : Vec Ideal S3x2048x5120 .bf16) (ix3 b s j)
      = (((dot (code (row (argX m c) b s)) (col (argW m c) j) : ℤ) : ℝ) : EReal) * scale (row (argX m c) b s) * argS m c (ix1 j) := by
  rw [exit_out]
  pointwise
  have hr : b.val * 2048 + s.val < 6144 := by omega
  have e := W4_arr m ρ c 4
  rw [show (W4 m ρ c (Proc.devRef .tc main_v3) : Vec Ideal S6144x5120 .bf16) = (dat1 (V3 m ρ) c).arrAt 4 cfg1.N from e]
  have hX : ∀ k : Fin 13824, (V3 m ρ c main_v1_0 : Vec Ideal S6144x13824 .i8) (ix2 (⟨b.val * 2048 + s.val, hr⟩ : Fin 6144) k)
      = code (row (argX m c) b s) k := fun k => by
    rw [codes_mid, ← entry_row m ρ c b s ⟨b.val * 2048 + s.val, hr⟩ rfl]
    rfl
  have hW : ∀ k : Fin 13824, (V3 m ρ c main_arg1 : Vec Ideal S13824x5120 .i8) (ix2 k j) = col (argW m c) j k := fun k => by
    rw [weights_mid]
    rfl
  have hs : (V3 m ρ c main_v1_1 : Vec Ideal S6144x1 .f32) (ix2 (⟨b.val * 2048 + s.val, hr⟩ : Fin 6144) 0)
      = scale (row (argX m c) b s) := by
    rw [scales_mid, ← entry_row m ρ c b s ⟨b.val * 2048 + s.val, hr⟩ rfl]
    rfl
  have hw : (V3 m ρ c main_v2 : Vec Ideal S1x5120 .f32) (ix2 0 j) = argS m c (ix1 j) := by
    rw [entry_scales]
    pointwise
  have hX' : (fun k => (V3 m ρ c main_v1_0 : Vec Ideal S6144x13824 .i8) (ix2 (⟨b.val * 2048 + s.val, hr⟩ : Fin 6144) k))
      = code (row (argX m c) b s) := funext hX
  have hW' : (fun k => (V3 m ρ c main_arg1 : Vec Ideal S13824x5120 .i8) (ix2 k j)) = col (argW m c) j := funext hW
  rw [← hX', ← hW'] at h ⊢
  rw [← hs, ← hw]
  exact arr_out (V3 m ρ) c (ix2 ⟨b.val * 2048 + s.val, hr⟩ j) h

open Idealize.ShloMosaic.TcCoe Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

-- the run's implicit arguments are found by unifying its conclusion with this one, which takes unfolding plain
-- definitions in a metavariable's type
set_option backward.isDefEq.respectTransparency.types false in
/-- After the kernel's run the three results hold the last boundary's contents and the arguments are as launched. -/
theorem run : θ_run defs (onTc (τ := τ) (main (F := Ideal))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v4 (by decide)), h c _ (mem_uc main_v5 (by decide)), h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Value
end
-- ==== Proof.TableRef.lean ====
/-
  The reference's printed 128 × 128 table is the Hadamard matrix's closed form.
-/
module
public import proofs.«01_k».proof.ReferenceIdeal
public import proofs.«01_k».proof.Proof.Bits
public import Idealize.ShloMosaic.Lib.Tactic
@[expose] public section
set_option maxRecDepth 100000
noncomputable section
namespace Cert.Spec
open Idealize.ShloMosaic

/-- Row `k` of the matrix, entry by entry. -/
def rrow (k j : Nat) : BitVec 16 := match j with
  | 0 => hadBits k 0
  | 1 => hadBits k 1
  | 2 => hadBits k 2
  | 3 => hadBits k 3
  | 4 => hadBits k 4
  | 5 => hadBits k 5
  | 6 => hadBits k 6
  | 7 => hadBits k 7
  | 8 => hadBits k 8
  | 9 => hadBits k 9
  | 10 => hadBits k 10
  | 11 => hadBits k 11
  | 12 => hadBits k 12
  | 13 => hadBits k 13
  | 14 => hadBits k 14
  | 15 => hadBits k 15
  | 16 => hadBits k 16
  | 17 => hadBits k 17
  | 18 => hadBits k 18
  | 19 => hadBits k 19
  | 20 => hadBits k 20
  | 21 => hadBits k 21
  | 22 => hadBits k 22
  | 23 => hadBits k 23
  | 24 => hadBits k 24
  | 25 => hadBits k 25
  | 26 => hadBits k 26
  | 27 => hadBits k 27
  | 28 => hadBits k 28
  | 29 => hadBits k 29
  | 30 => hadBits k 30
  | 31 => hadBits k 31
  | 32 => hadBits k 32
  | 33 => hadBits k 33
  | 34 => hadBits k 34
  | 35 => hadBits k 35
  | 36 => hadBits k 36
  | 37 => hadBits k 37
  | 38 => hadBits k 38
  | 39 => hadBits k 39
  | 40 => hadBits k 40
  | 41 => hadBits k 41
  | 42 => hadBits k 42
  | 43 => hadBits k 43
  | 44 => hadBits k 44
  | 45 => hadBits k 45
  | 46 => hadBits k 46
  | 47 => hadBits k 47
  | 48 => hadBits k 48
  | 49 => hadBits k 49
  | 50 => hadBits k 50
  | 51 => hadBits k 51
  | 52 => hadBits k 52
  | 53 => hadBits k 53
  | 54 => hadBits k 54
  | 55 => hadBits k 55
  | 56 => hadBits k 56
  | 57 => hadBits k 57
  | 58 => hadBits k 58
  | 59 => hadBits k 59
  | 60 => hadBits k 60
  | 61 => hadBits k 61
  | 62 => hadBits k 62
  | 63 => hadBits k 63
  | 64 => hadBits k 64
  | 65 => hadBits k 65
  | 66 => hadBits k 66
  | 67 => hadBits k 67
  | 68 => hadBits k 68
  | 69 => hadBits k 69
  | 70 => hadBits k 70
  | 71 => hadBits k 71
  | 72 => hadBits k 72
  | 73 => hadBits k 73
  | 74 => hadBits k 74
  | 75 => hadBits k 75
  | 76 => hadBits k 76
  | 77 => hadBits k 77
  | 78 => hadBits k 78
  | 79 => hadBits k 79
  | 80 => hadBits k 80
  | 81 => hadBits k 81
  | 82 => hadBits k 82
  | 83 => hadBits k 83
  | 84 => hadBits k 84
  | 85 => hadBits k 85
  | 86 => hadBits k 86
  | 87 => hadBits k 87
  | 88 => hadBits k 88
  | 89 => hadBits k 89
  | 90 => hadBits k 90
  | 91 => hadBits k 91
  | 92 => hadBits k 92
  | 93 => hadBits k 93
  | 94 => hadBits k 94
  | 95 => hadBits k 95
  | 96 => hadBits k 96
  | 97 => hadBits k 97
  | 98 => hadBits k 98
  | 99 => hadBits k 99
  | 100 => hadBits k 100
  | 101 => hadBits k 101
  | 102 => hadBits k 102
  | 103 => hadBits k 103
  | 104 => hadBits k 104
  | 105 => hadBits k 105
  | 106 => hadBits k 106
  | 107 => hadBits k 107
  | 108 => hadBits k 108
  | 109 => hadBits k 109
  | 110 => hadBits k 110
  | 111 => hadBits k 111
  | 112 => hadBits k 112
  | 113 => hadBits k 113
  | 114 => hadBits k 114
  | 115 => hadBits k 115
  | 116 => hadBits k 116
  | 117 => hadBits k 117
  | 118 => hadBits k 118
  | 119 => hadBits k 119
  | 120 => hadBits k 120
  | 121 => hadBits k 121
  | 122 => hadBits k 122
  | 123 => hadBits k 123
  | 124 => hadBits k 124
  | 125 => hadBits k 125
  | 126 => hadBits k 126
  | 127 => hadBits k 127
  | _ => 0x0000#16

/-- The matrix, row by row. -/
def rpat (k j : Nat) : BitVec 16 := match k with
  | 0 => rrow 0 j
  | 1 => rrow 1 j
  | 2 => rrow 2 j
  | 3 => rrow 3 j
  | 4 => rrow 4 j
  | 5 => rrow 5 j
  | 6 => rrow 6 j
  | 7 => rrow 7 j
  | 8 => rrow 8 j
  | 9 => rrow 9 j
  | 10 => rrow 10 j
  | 11 => rrow 11 j
  | 12 => rrow 12 j
  | 13 => rrow 13 j
  | 14 => rrow 14 j
  | 15 => rrow 15 j
  | 16 => rrow 16 j
  | 17 => rrow 17 j
  | 18 => rrow 18 j
  | 19 => rrow 19 j
  | 20 => rrow 20 j
  | 21 => rrow 21 j
  | 22 => rrow 22 j
  | 23 => rrow 23 j
  | 24 => rrow 24 j
  | 25 => rrow 25 j
  | 26 => rrow 26 j
  | 27 => rrow 27 j
  | 28 => rrow 28 j
  | 29 => rrow 29 j
  | 30 => rrow 30 j
  | 31 => rrow 31 j
  | 32 => rrow 32 j
  | 33 => rrow 33 j
  | 34 => rrow 34 j
  | 35 => rrow 35 j
  | 36 => rrow 36 j
  | 37 => rrow 37 j
  | 38 => rrow 38 j
  | 39 => rrow 39 j
  | 40 => rrow 40 j
  | 41 => rrow 41 j
  | 42 => rrow 42 j
  | 43 => rrow 43 j
  | 44 => rrow 44 j
  | 45 => rrow 45 j
  | 46 => rrow 46 j
  | 47 => rrow 47 j
  | 48 => rrow 48 j
  | 49 => rrow 49 j
  | 50 => rrow 50 j
  | 51 => rrow 51 j
  | 52 => rrow 52 j
  | 53 => rrow 53 j
  | 54 => rrow 54 j
  | 55 => rrow 55 j
  | 56 => rrow 56 j
  | 57 => rrow 57 j
  | 58 => rrow 58 j
  | 59 => rrow 59 j
  | 60 => rrow 60 j
  | 61 => rrow 61 j
  | 62 => rrow 62 j
  | 63 => rrow 63 j
  | 64 => rrow 64 j
  | 65 => rrow 65 j
  | 66 => rrow 66 j
  | 67 => rrow 67 j
  | 68 => rrow 68 j
  | 69 => rrow 69 j
  | 70 => rrow 70 j
  | 71 => rrow 71 j
  | 72 => rrow 72 j
  | 73 => rrow 73 j
  | 74 => rrow 74 j
  | 75 => rrow 75 j
  | 76 => rrow 76 j
  | 77 => rrow 77 j
  | 78 => rrow 78 j
  | 79 => rrow 79 j
  | 80 => rrow 80 j
  | 81 => rrow 81 j
  | 82 => rrow 82 j
  | 83 => rrow 83 j
  | 84 => rrow 84 j
  | 85 => rrow 85 j
  | 86 => rrow 86 j
  | 87 => rrow 87 j
  | 88 => rrow 88 j
  | 89 => rrow 89 j
  | 90 => rrow 90 j
  | 91 => rrow 91 j
  | 92 => rrow 92 j
  | 93 => rrow 93 j
  | 94 => rrow 94 j
  | 95 => rrow 95 j
  | 96 => rrow 96 j
  | 97 => rrow 97 j
  | 98 => rrow 98 j
  | 99 => rrow 99 j
  | 100 => rrow 100 j
  | 101 => rrow 101 j
  | 102 => rrow 102 j
  | 103 => rrow 103 j
  | 104 => rrow 104 j
  | 105 => rrow 105 j
  | 106 => rrow 106 j
  | 107 => rrow 107 j
  | 108 => rrow 108 j
  | 109 => rrow 109 j
  | 110 => rrow 110 j
  | 111 => rrow 111 j
  | 112 => rrow 112 j
  | 113 => rrow 113 j
  | 114 => rrow 114 j
  | 115 => rrow 115 j
  | 116 => rrow 116 j
  | 117 => rrow 117 j
  | 118 => rrow 118 j
  | 119 => rrow 119 j
  | 120 => rrow 120 j
  | 121 => rrow 121 j
  | 122 => rrow 122 j
  | 123 => rrow 123 j
  | 124 => rrow 124 j
  | 125 => rrow 125 j
  | 126 => rrow 126 j
  | 127 => rrow 127 j
  | _ => 0x0000#16

/-- The printed table is the matrix, entry by entry. -/
theorem ref_lit : Cert.ReferenceIdeal.lit0t = fun i => rpat (i / 128) (i % 128) := by
  sl_kernel_rfl

/-- An entry of a row is the closed form. -/
theorem rrow_eq (k j : Nat) (h : j < 128) : rrow k j = hadBits k j := by
  interval_cases j <;> rfl

/-- An entry of the matrix is the closed form. -/
theorem rpat_eq (k j : Nat) (hk : k < 128) (h : j < 128) : rpat k j = hadBits k j := by
  rw [← rrow_eq k j h]
  interval_cases k <;> rfl

/-- Entry `(k, j)` of the printed table. -/
theorem ref_table (k j : Nat) (hk : k < 128) (hj : j < 128) (h : 128 * k + j < 16384) :
    Cert.ReferenceIdeal.lit0 ⟨128 * k + j, h⟩ = hadBits k j := by
  show Cert.ReferenceIdeal.lit0t (128 * k + j) = _
  rw [ref_lit, ← rpat_eq k j hk hj]
  show rpat ((128 * k + j) / 128) ((128 * k + j) % 128) = _
  rw [show (128 * k + j) / 128 = k by omega, show (128 * k + j) % 128 = j by omega]

end Cert.Spec
end
-- ==== Proof.Ref.lean ====
/-
  The reference's three results, element by element.
-/
module

public import proofs.«01_k».proof.Proof.TableRef
public import proofs.«01_k».proof.Proof.Math
public import proofs.«01_k».proof.Proof.Gen.ReferenceIdeal
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Spec

open Idealize.ShloMosaic
open Cert.ReferenceIdeal.Gen Cert.Spec

/-- Row `s` of batch `b` of the argument. -/
def row (x : FVec Ideal S3x2048x13824 .bf16) (b : Fin 3) (s : Fin 2048) : Fin 13824 → EReal := fun k => x (ix3 b s k)

variable (x : FVec Ideal S3x2048x13824 .bf16)

/-- The blocks of the argument times a matrix. -/
def rotOf (h : FVec Ideal S128x128 .bf16) : FVec Ideal S3x2048x13824 .f32 :=
  shapeCast _ (Host.dotGeneral dot_S3x2048x108x128_S128x128_S3x2048x108x128_3_0_012_1_n_n none
    (shapeCast _ (extf .f32 x bitsLt_bf16_f32) shapeCasts_S3x2048x13824_S3x2048x108x128)
    (extf .f32 h bitsLt_bf16_f32)) shapeCasts_S3x2048x108x128_S3x2048x13824

/-- The printed table. -/
def tableT : FVec Ideal S128x128 .bf16 := fun i => FloatOps.ofBits .bf16 (lit0 (S128x128.rowMajor i))

/-- The rotated argument. -/
def rotT : FVec Ideal S3x2048x13824 .f32 := rotOf x tableT

/-- The rows' largest magnitudes. -/
def amaxOf (R : FVec Ideal S3x2048x13824 .f32) : FVec Ideal S3x2048x1 .f32 :=
  broadcastInDim S3x2048x1 ![0, 1] bcast_S3x2048_S3x2048x1_0_1
    (Host.reduce FloatOps.maximumf (Host.absf R) (constant S_ .f32 0xFF800000#32) reducesTo_S3x2048x13824_S3x2048_d2 h_S_)

/-- The scales of rows of given largest magnitudes. -/
def scaleOf (A : FVec Ideal S3x2048x1 .f32) : FVec Ideal S3x2048x1 .f32 :=
  select (cmpf .ogt A (broadcastInDim S3x2048x1 ![] bcast_S_S3x2048x1 (constant S_ .f32 0x00000000#32)))
    (Host.divf A (broadcastInDim S3x2048x1 ![] bcast_S_S3x2048x1 (constant S_ .f32 0x42FE0000#32)))
    (broadcastInDim S3x2048x1 ![] bcast_S_S3x2048x1 (id (constant S_ .f32 0x3F800000#32)))

/-- The codes, as floats, at given scales. -/
def codeOf (R : FVec Ideal S3x2048x13824 .f32) (S : FVec Ideal S3x2048x1 .f32) : FVec Ideal S3x2048x13824 .f32 :=
  minimumf (broadcastInDim S3x2048x13824 ![] bcast_S_S3x2048x13824 (id (constant S_ .f32 0x42FE0000#32)))
    (maximumf (broadcastInDim S3x2048x13824 ![] bcast_S_S3x2048x13824 (id (constant S_ .f32 0xC2FE0000#32)))
      (Host.roundeven (Host.divf R (broadcastInDim S3x2048x13824 ![0, 1, 2] bcast_S3x2048x1_S3x2048x13824_0_1_2 S))))

/-- The codes as 8-bit words. -/
def wordOf (C : FVec Ideal S3x2048x13824 .f32) : IVec S3x2048x13824 8 := trunci 8 (fptosi 32 C) natLt_8_32

/-- The output of given codes and scales. -/
def outOf (C : FVec Ideal S3x2048x13824 .f32) (S : FVec Ideal S3x2048x1 .f32) (w : IVec S13824x5120 8) (sc : FVec Ideal S5120 .f32) :
    FVec Ideal S3x2048x5120 .bf16 :=
  truncf .bf16 (mulf (mulf (Host.dotGeneral dot_S3x2048x13824_S13824x5120_S3x2048x5120_2_0_01_1_n_n none C
      (sitofp .f32 (extsi 32 w natLt_8_32)))
    (broadcastInDim S3x2048x5120 ![0, 1, 2] bcast_S3x2048x1_S3x2048x5120_0_1_2 S))
    (broadcastInDim S3x2048x5120 ![0, 1, 2] bcast_S1x1x5120_S3x2048x5120_0_1_2 (broadcastInDim S1x1x5120 ![2] bcast_S5120_S1x1x5120_2 sc))) bitsLt_bf16_f32

/-- An element of the blocks times a matrix. -/
theorem rotOf_apply (h : FVec Ideal S128x128 .bf16) (b : Fin 3) (s : Fin 2048) (k : Fin 13824) :
    rotOf x h (ix3 b s k) = ∑ i : Fin 128, row x b s ⟨128 * (k.val / 128) + i.val, by omega⟩ * h (ix2 i (⟨k.val % 128, by omega⟩ : Fin 128)) := by
  unfold rotOf
  pointwise
  refine Finset.sum_congr rfl fun i _ => ?_
  have e : (⟨k.val / 128 * 128 + i.val, by omega⟩ : Fin 13824) = ⟨128 * (k.val / 128) + i.val, by omega⟩ :=
    Fin.ext (by show k.val / 128 * 128 + i.val = 128 * (k.val / 128) + i.val; omega)
  unfold row
  rw [← e]

/-- An element of the printed table. -/
theorem tableT_apply (i j : Fin 128) : tableT (ix2 i j) = had i.val j.val := by
  have h2 : 128 * i.val + j.val < 16384 := by omega
  have e : (S128x128.rowMajor (ix2 i j)) = (⟨128 * i.val + j.val, h2⟩ : Fin 16384) := Fin.ext (by
    show i.val * 128 + (j.val * 1 + 0) = 128 * i.val + j.val
    omega)
  show Ideal.ofBits .bf16 (lit0 (S128x128.rowMajor (ix2 i j))) = _
  rw [e, ref_table _ _ i.isLt j.isLt]
  rfl

/-- An element of the rotated argument. -/
theorem rotT_apply (b : Fin 3) (s : Fin 2048) (k : Fin 13824) : rotT x (ix3 b s k) = rot (row x b s) k := by
  unfold rotT rot
  rw [rotOf_apply]
  refine Finset.sum_congr rfl fun i _ => ?_
  rw [tableT_apply]

/-- A row's largest magnitude. -/
theorem amaxOf_apply (R : FVec Ideal S3x2048x13824 .f32) (b : Fin 3) (s : Fin 2048) (z : Fin 1) :
    amaxOf R (ix3 b s z) = Finset.univ.sup fun k : Fin 13824 => max (R (ix3 b s k)) (-(R (ix3 b s k))) := by
  unfold amaxOf
  pointwise
  rw [show Ideal.ofBits .f32 0xFF800000#32 = (⊥ : EReal) by simp [Ideal.ofBits, Ideal.ieee]]
  rfl

/-- A row's scale. -/
theorem scaleOf_apply (A : FVec Ideal S3x2048x1 .f32) (b : Fin 3) (s : Fin 2048) (z : Fin 1) :
    scaleOf A (ix3 b s z) = if 0 < A (ix3 b s z) then Ideal.div (A (ix3 b s z)) (Ideal.ofBits .f32 0x42FE0000#32) else 1 := by
  unfold scaleOf
  pointwise
  show (if 0 < A (ix3 b s z) then _ else Ideal.ofBits .f32 0x3F800000#32) = _
  rw [Ideal.ofBits_one_f32]

/-- A code, as a float. -/
theorem codeOf_apply (R : FVec Ideal S3x2048x13824 .f32) (S : FVec Ideal S3x2048x1 .f32) (b : Fin 3) (s : Fin 2048) (k : Fin 13824) :
    codeOf R S (ix3 b s k) = clipRound (Ideal.div (R (ix3 b s k)) (S (ix3 b s 0))) := by
  unfold codeOf
  pointwise
  rfl

/-- An output element. -/
theorem outOf_apply (C : FVec Ideal S3x2048x13824 .f32) (S : FVec Ideal S3x2048x1 .f32) (w : IVec S13824x5120 8) (sc : FVec Ideal S5120 .f32)
    (b : Fin 3) (s : Fin 2048) (j : Fin 5120) :
    outOf C S w sc (ix3 b s j) = (∑ k : Fin 13824, C (ix3 b s k) * (((w (ix2 k j)).toInt : ℝ) : EReal)) * S (ix3 b s 0) * sc (ix1 j) := by
  unfold outOf
  pointwise
  congr 2
  refine Finset.sum_congr rfl fun k _ => ?_
  show _ * ((((w (ix2 k j)).signExtend 32).toInt : ℝ) : EReal) = _
  rw [BitVec.toInt_signExtend_of_le (by decide)]

/-- A code, as a word. -/
theorem wordOf_apply (C : FVec Ideal S3x2048x13824 .f32) (b : Fin 3) (s : Fin 2048) (k : Fin 13824) :
    wordOf C (ix3 b s k) = (Ideal.fptosi 32 (C (ix3 b s k))).truncate 8 := by
  unfold wordOf
  pointwise
  rfl

/-- The reference's scales. -/
def scaleT : FVec Ideal S3x2048x1 .f32 := scaleOf (amaxOf (rotT x))

/-- The reference's codes, as floats. -/
def codeT : FVec Ideal S3x2048x13824 .f32 := codeOf (rotT x) (scaleT x)

/-- The reference's scales are the rows' scales. -/
theorem scaleT_apply (b : Fin 3) (s : Fin 2048) (z : Fin 1) : scaleT x (ix3 b s z) = scale (row x b s) := by
  unfold scaleT
  rw [scaleOf_apply, amaxOf_apply]
  simp only [rotT_apply]
  rfl

/-- The reference's float codes are the rows' codes. -/
theorem codeT_apply (b : Fin 3) (s : Fin 2048) (k : Fin 13824) : codeT x (ix3 b s k) = codeR (row x b s) k := by
  unfold codeT codeR
  rw [codeOf_apply, rotT_apply, scaleT_apply]

/-- The reference's codes are the rows' codes. -/
theorem wordT_apply (b : Fin 3) (s : Fin 2048) (k : Fin 13824) : wordOf (codeT x) (ix3 b s k) = code (row x b s) k := by
  rw [wordOf_apply, codeT_apply]
  exact trunc_fptosi32_clipRound _

/-- The reference's output. -/
theorem outT_apply (w : IVec S13824x5120 8) (sc : FVec Ideal S5120 .f32) (b : Fin 3) (s : Fin 2048) (j : Fin 5120) :
    outOf (codeT x) (scaleT x) w sc (ix3 b s j)
      = (∑ k : Fin 13824, codeR (row x b s) k * (((w (ix2 k j)).toInt : ℝ) : EReal)) * scale (row x b s) * sc (ix1 j) := by
  rw [outOf_apply, scaleT_apply]
  simp only [codeT_apply]

open Idealize.SL.Sem

/-- After the reference's run the three results hold the arrays above and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = outOf (codeT (m ((c.tc : Thread nD τ).loc main_arg0)))
          (scaleT (m ((c.tc : Thread nD τ).loc main_arg0))) (m ((c.tc : Thread nD τ).loc main_arg1)) (m ((c.tc : Thread nD τ).loc main_arg2))
      ∧ r.2.mem ((c.tc : Thread nD τ).loc main_v27) = wordOf (codeT (m ((c.tc : Thread nD τ).loc main_arg0)))
      ∧ r.2.mem ((c.tc : Thread nD τ).loc main_v12) = scaleT (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Spec
end
-- ==== Proof.TableMask.lean ====
/-
  The mask's printed table is the Hadamard matrix's closed form.
-/
module
public import proofs.«01_k».proof.On_products_total_in_range
public import proofs.«01_k».proof.Proof.TableRef
public import Idealize.ShloMosaic.Lib.Tactic
@[expose] public section
set_option maxRecDepth 100000
noncomputable section
namespace Cert.Spec
open Idealize.ShloMosaic

/-- The mask's printed table is the reference's. -/
theorem mask_lit : Cert.On_products_total_in_range.lit0t = Cert.ReferenceIdeal.lit0t := rfl

/-- Entry `(k, j)` of the mask's printed table. -/
theorem mask_table (k j : Nat) (hk : k < 128) (hj : j < 128) (h : 128 * k + j < 16384) :
    Cert.On_products_total_in_range.lit0 ⟨128 * k + j, h⟩ = hadBits k j := by
  show Cert.On_products_total_in_range.lit0t (128 * k + j) = _
  rw [mask_lit]
  exact ref_table k j hk hj h

end Cert.Spec
end
-- ==== Proof.Sums.lean ====
/-
  The sums of products of the codes with the weights, as extended reals and as integers.
-/
module

public import proofs.«01_k».proof.Proof.Math

@[expose] public section

noncomputable section

namespace Cert.Spec

open Idealize.ShloMosaic

/-- A code read back as a signed integer is its float value. -/
theorem code_toInt (X : Fin 13824 → EReal) (k : Fin 13824) : (((code X k).toInt : ℝ) : EReal) = codeR X k :=
  fptosi8_clipRound _

/-- A sum of reals is the sum of their casts. -/
theorem coe_sum_real {n : Nat} (f : Fin n → ℝ) : ((∑ k, f k : ℝ) : EReal) = ∑ k, ((f k : ℝ) : EReal) := by
  classical
  refine Finset.induction_on (Finset.univ : Finset (Fin n)) (by simp) ?_
  intro a s ha ih
  rw [Finset.sum_insert ha, Finset.sum_insert ha, EReal.coe_add, ih]

/-- The larger of two reals is the larger of their casts. -/
theorem coe_max_real (a b : ℝ) : ((max a b : ℝ) : EReal) = max (a : EReal) (b : EReal) := EReal.coe_strictMono.monotone.map_max

/-- The float sum of the codes' products is the integer sum. -/
theorem sum_products (X : Fin 13824 → EReal) (W : Fin 13824 → BitVec 8) :
    ∑ k, codeR X k * (((W k).toInt : ℝ) : EReal) = (((∑ k, (code X k).toInt * (W k).toInt : ℤ) : ℝ) : EReal) := by
  simp only [← code_toInt, ← EReal.coe_mul]
  rw [← coe_sum_real]
  push_cast
  rfl

/-- The float sum of the products' magnitudes is the integer sum. -/
theorem sum_magnitudes (X : Fin 13824 → EReal) (W : Fin 13824 → BitVec 8) :
    ∑ k, max (codeR X k) (-(codeR X k)) * max (((W k).toInt : ℝ) : EReal) (-(((W k).toInt : ℝ) : EReal))
      = (((∑ k, ((code X k).toInt * (W k).toInt).natAbs : ℕ) : ℝ) : EReal) := by
  simp only [← code_toInt, ← EReal.coe_neg, ← coe_max_real, ← EReal.coe_mul]
  rw [← coe_sum_real]
  refine congrArg (fun r : ℝ => (r : EReal)) ?_
  rw [Nat.cast_sum]
  refine Finset.sum_congr rfl fun k _ => ?_
  rw [Int.natAbs_mul, Nat.cast_mul, Nat.cast_natAbs, Nat.cast_natAbs, Int.cast_abs, Int.cast_abs, abs_eq_max_neg, abs_eq_max_neg]

/-- The float total within the bound is the integer total within it. -/
theorem total_le (X : Fin 13824 → EReal) (W : Fin 13824 → BitVec 8)
    (h : ∑ k, max (codeR X k) (-(codeR X k)) * max (((W k).toInt : ℝ) : EReal) (-(((W k).toInt : ℝ) : EReal))
      ≤ Ideal.ofBits .f32 0x4B7FFFFF#32) : ∑ k, ((code X k).toInt * (W k).toInt).natAbs ≤ 16777215 := by
  rw [sum_magnitudes, ofBits_total, EReal.coe_le_coe_iff] at h
  exact_mod_cast h

end Cert.Spec

end
-- ==== Proof.Mask.lean ====
/-
  Where the mask is set the total of the products' magnitudes is within the exact range.
-/
module

public import proofs.«01_k».proof.Proof.TableMask
public import proofs.«01_k».proof.Proof.Sums
public import proofs.«01_k».proof.Proof.Gen.On_products_total_in_range
public import Idealize.ShloMosaic.Lib.Pointwise
public import Idealize.ShloMosaic.Lib.Pipeline.ValueKit

@[expose] public section

set_option maxRecDepth 16384

noncomputable section

namespace Cert.On_products_total_in_range.Spec

open Idealize.ShloMosaic
open Cert.On_products_total_in_range.Gen Cert.Spec

/-- Row `s` of batch `b` of the argument. -/
def row (x : FVec Ideal S3x2048x13824 .bf16) (b : Fin 3) (s : Fin 2048) : Fin 13824 → EReal := fun k => x (ix3 b s k)

variable (x : FVec Ideal S3x2048x13824 .bf16)

/-- The products of the argument's blocks with a matrix, before they are summed. -/
def prodOf (h : FVec Ideal S128x128 .bf16) : FVec Ideal S3x2048x108x128x128 .f32 :=
  mulf (broadcastInDim S3x2048x108x128x128 ![0, 1, 2, 3, 4] bcast_S3x2048x108x128x1_S3x2048x108x128x128_0_1_2_3_4
      (shapeCast S3x2048x108x128x1 (extf .f32 x bitsLt_bf16_f32) shapeCasts_S3x2048x13824_S3x2048x108x128x1))
    (broadcastInDim S3x2048x108x128x128 ![0, 1, 2, 3, 4] bcast_S1x1x1x128x128_S3x2048x108x128x128_0_1_2_3_4
      (broadcastInDim S1x1x1x128x128 ![3, 4] bcast_S128x128_S1x1x1x128x128_3_4 (extf .f32 h bitsLt_bf16_f32)))

/-- The blocks of the argument times a matrix. -/
def rotOf (h : FVec Ideal S128x128 .bf16) : FVec Ideal S3x2048x13824 .f32 :=
  shapeCast S3x2048x13824 (Host.reduceAdd (prodOf x h) (constant S_ .f32 0x00000000#32) reducesTo_S3x2048x108x128x128_S3x2048x108x128_d3 h_S_)
    shapeCasts_S3x2048x108x128_S3x2048x13824

/-- The printed table. -/
def tableT : FVec Ideal S128x128 .bf16 := fun i => FloatOps.ofBits .bf16 (lit0 (S128x128.rowMajor i))

/-- The rotated argument. -/
def rotT : FVec Ideal S3x2048x13824 .f32 := rotOf x tableT

/-- The rows' largest magnitudes. -/
def amaxOf (R : FVec Ideal S3x2048x13824 .f32) : FVec Ideal S3x2048x1 .f32 :=
  broadcastInDim S3x2048x1 ![0, 1] bcast_S3x2048_S3x2048x1_0_1
    (Host.reduce FloatOps.maximumf (Host.absf R) (constant S_ .f32 0xFF800000#32) reducesTo_S3x2048x13824_S3x2048_d2 h_S_)

/-- The scales of rows of given largest magnitudes. -/
def scaleOf (A : FVec Ideal S3x2048x1 .f32) : FVec Ideal S3x2048x1 .f32 :=
  select (cmpf .ogt A (broadcastInDim S3x2048x1 ![] bcast_S_S3x2048x1 (constant S_ .f32 0x00000000#32)))
    (Host.divf A (broadcastInDim S3x2048x1 ![] bcast_S_S3x2048x1 (constant S_ .f32 0x42FE0000#32)))
    (broadcastInDim S3x2048x1 ![] bcast_S_S3x2048x1 (constant S_ .f32 0x3F800000#32))

/-- The codes, as floats, at given scales. -/
def codeOf (R : FVec Ideal S3x2048x13824 .f32) (S : FVec Ideal S3x2048x1 .f32) : FVec Ideal S3x2048x13824 .f32 :=
  minimumf (maximumf (Host.roundeven (Host.divf R (broadcastInDim S3x2048x13824 ![0, 1, 2] bcast_S3x2048x1_S3x2048x13824_0_1_2 S)))
      (broadcastInDim S3x2048x13824 ![] bcast_S_S3x2048x13824 (constant S_ .f32 0xC2FE0000#32)))
    (broadcastInDim S3x2048x13824 ![] bcast_S_S3x2048x13824 (constant S_ .f32 0x42FE0000#32))

/-- Whether the total of the magnitudes is in range. -/
def okOf (C : FVec Ideal S3x2048x13824 .f32) (w : IVec S13824x5120 8) : IVec S3x2048x5120 1 :=
  cmpf .ole (Host.dotGeneral dot_S3x2048x13824_S13824x5120_S3x2048x5120_2_0_01_1_n_n none (Host.absf C)
      (Host.absf (sitofp .f32 (extsi 32 w natLt_8_32))))
    (broadcastInDim S3x2048x5120 ![] bcast_S_S3x2048x5120 (constant S_ .f32 0x4B7FFFFF#32))

/-- An element of the products. -/
theorem prodOf_apply (h : FVec Ideal S128x128 .bf16) (b : Fin 3) (s : Fin 2048) (q : Fin 108) (i j : Fin 128) :
    prodOf x h (ix5 b s q i j) = row x b s ⟨128 * q.val + i.val, by omega⟩ * h (ix2 i j) := by
  unfold prodOf
  pointwise
  have e : (⟨q.val * 128 + i.val, by omega⟩ : Fin 13824) = ⟨128 * q.val + i.val, by omega⟩ :=
    Fin.ext (by show q.val * 128 + i.val = 128 * q.val + i.val; omega)
  unfold row
  rw [← e]

/-- An element of the blocks times a matrix. -/
theorem rotOf_apply (h : FVec Ideal S128x128 .bf16) (b : Fin 3) (s : Fin 2048) (k : Fin 13824) :
    rotOf x h (ix3 b s k) = ∑ i : Fin 128, row x b s ⟨128 * (k.val / 128) + i.val, by omega⟩ * h (ix2 i (⟨k.val % 128, by omega⟩ : Fin 128)) := by
  unfold rotOf
  generalize hP : prodOf x h = P
  pointwise
  subst hP
  refine Finset.sum_congr rfl fun i _ => ?_
  rw [prodOf_apply]

/-- An element of the printed table. -/
theorem tableT_apply (i j : Fin 128) : tableT (ix2 i j) = had i.val j.val := by
  have h2 : 128 * i.val + j.val < 16384 := by omega
  have e : (S128x128.rowMajor (ix2 i j)) = (⟨128 * i.val + j.val, h2⟩ : Fin 16384) := Fin.ext (by
    show i.val * 128 + (j.val * 1 + 0) = 128 * i.val + j.val
    omega)
  show Ideal.ofBits .bf16 (lit0 (S128x128.rowMajor (ix2 i j))) = _
  rw [e, mask_table _ _ i.isLt j.isLt]
  rfl

/-- An element of the rotated argument. -/
theorem rotT_apply (b : Fin 3) (s : Fin 2048) (k : Fin 13824) : rotT x (ix3 b s k) = rot (row x b s) k := by
  unfold rotT rot
  rw [rotOf_apply]
  refine Finset.sum_congr rfl fun i _ => ?_
  rw [tableT_apply]

/-- A row's largest magnitude. -/
theorem amaxOf_apply (R : FVec Ideal S3x2048x13824 .f32) (b : Fin 3) (s : Fin 2048) (z : Fin 1) :
    amaxOf R (ix3 b s z) = Finset.univ.sup fun k : Fin 13824 => max (R (ix3 b s k)) (-(R (ix3 b s k))) := by
  unfold amaxOf
  pointwise
  rw [show Ideal.ofBits .f32 0xFF800000#32 = (⊥ : EReal) by simp [Ideal.ofBits, Ideal.ieee]]
  rfl

/-- A row's scale. -/
theorem scaleOf_apply (A : FVec Ideal S3x2048x1 .f32) (b : Fin 3) (s : Fin 2048) (z : Fin 1) :
    scaleOf A (ix3 b s z) = if 0 < A (ix3 b s z) then Ideal.div (A (ix3 b s z)) (Ideal.ofBits .f32 0x42FE0000#32) else 1 := by
  unfold scaleOf
  pointwise

/-- A code, as a float. -/
theorem codeOf_apply (R : FVec Ideal S3x2048x13824 .f32) (S : FVec Ideal S3x2048x1 .f32) (b : Fin 3) (s : Fin 2048) (k : Fin 13824) :
    codeOf R S (ix3 b s k) = clipRound (Ideal.div (R (ix3 b s k)) (S (ix3 b s 0))) := by
  unfold codeOf clipRound
  rw [min_comm, max_comm]
  pointwise

/-- Where the mask is set the float total is within the bound. -/
theorem okOf_apply (C : FVec Ideal S3x2048x13824 .f32) (w : IVec S13824x5120 8) (b : Fin 3) (s : Fin 2048) (j : Fin 5120)
    (h : okOf C w (ix3 b s j) = 1#1) :
    ∑ k : Fin 13824, max (C (ix3 b s k)) (-(C (ix3 b s k))) * max (((w (ix2 k j)).toInt : ℝ) : EReal) (-(((w (ix2 k j)).toInt : ℝ) : EReal))
      ≤ Ideal.ofBits .f32 0x4B7FFFFF#32 := by
  unfold okOf at h
  revert h
  pointwise
  intro h
  by_contra hn
  refine absurd h ?_
  rw [decide_eq_false]
  · decide
  · intro hle
    refine hn (le_trans (le_of_eq ?_) hle)
    refine Finset.sum_congr rfl fun k _ => ?_
    show _ = max (C (ix3 b s k)) (-(C (ix3 b s k))) * max ((((w (ix2 k j)).signExtend 32).toInt : ℝ) : EReal) (-((((w (ix2 k j)).signExtend 32).toInt : ℝ) : EReal))
    rw [BitVec.toInt_signExtend_of_le (by decide)]

/-- The mask's codes, as floats. -/
def codeT : FVec Ideal S3x2048x13824 .f32 := codeOf (rotT x) (scaleOf (amaxOf (rotT x)))

/-- The mask's float codes are the rows' codes. -/
theorem codeT_apply (b : Fin 3) (s : Fin 2048) (k : Fin 13824) : codeT x (ix3 b s k) = codeR (row x b s) k := by
  unfold codeT codeR
  rw [codeOf_apply, rotT_apply, scaleOf_apply, amaxOf_apply]
  simp only [rotT_apply]
  rfl

/-- The mask of the first result. -/
theorem fn_ok (w : IVec S13824x5120 8) (sc : FVec Ideal S5120 .f32) : (fn (F := Ideal) x w sc).1 = okOf (codeT x) w := rfl

/-- Where the mask is set the total of the products' magnitudes is in the exact range. -/
theorem mask_total (w : IVec S13824x5120 8) (sc : FVec Ideal S5120 .f32) (b : Fin 3) (s : Fin 2048) (j : Fin 5120)
    (h : (fn (F := Ideal) x w sc).1 (ix3 b s j) = 1#1) :
    ∑ k, ((code (row x b s) k).toInt * (w (ix2 k j)).toInt).natAbs ≤ 16777215 := by
  rw [fn_ok] at h
  have h' := okOf_apply _ _ _ _ _ h
  simp only [codeT_apply] at h'
  exact total_le (row x b s) (fun k => w (ix2 k j)) h'

end Cert.On_products_total_in_range.Spec
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_products_total_in_range
public import proofs.«01_k».proof.Proof.Run
public import proofs.«01_k».proof.Proof.Ref
public import proofs.«01_k».proof.Proof.Mask
public import Idealize.ShloMosaic.Adequacy
public import Idealize.ShloMosaic.Init

@[expose] public section

set_option maxRecDepth 16384

noncomputable section

namespace Cert.Proof

open Idealize.ShloMosaic Idealize.SL.Sem

/-- The reference runs, its arguments are kept, and it has no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- The kernel and the reference give equal results: the codes and scales everywhere, the output where the mask is set. -/
theorem value : Cert.algebraic_KernelIdeal_ReferenceIdeal_on_products_total_in_range (hKernelIdeal := Cert.KernelIdeal.Gen.facts)
    (hReferenceIdeal := Cert.ReferenceIdeal.Gen.facts) (hOn_products_total_in_range := Cert.On_products_total_in_range.Gen.facts) := by
  intro m ρ m' ρ' _ hargs
  refine ⟨fun c => Cert.KernelIdeal.Gen.W5 m ρ c (Proc.devRef .tc Cert.KernelIdeal.main_v4),
    fun c => Cert.KernelIdeal.Gen.W5 m ρ c (Proc.devRef .tc Cert.KernelIdeal.main_v5),
    fun c => Cert.KernelIdeal.Gen.W5 m ρ c (Proc.devRef .tc Cert.KernelIdeal.main_v6), ?_, ?_⟩
  · refine (θ_run Cert.KernelIdeal.defs _ _).mono (fun r h c => ?_) (Cert.KernelIdeal.Value.run m ρ)
    obtain ⟨h4, h5, h6, ha⟩ := h c
    exact ⟨fun i _ => congrFun h4 i, fun i _ => congrFun h5 i, fun i _ => congrFun h6 i, ha⟩
  · refine (θ_run Cert.ReferenceIdeal.defs _ _).mono (fun r h c => ?_) (Cert.ReferenceIdeal.Spec.run m' ρ')
    obtain ⟨h4, h5, h6, ha⟩ := h c
    obtain ⟨e0, e1, e2⟩ := hargs c
    rw [e0, e1, e2] at h4
    rw [e0] at h5 h6
    refine ⟨fun i hi => ?_, fun i _ => ?_, fun i _ => ?_, ha⟩
    · have hx : i = ix3 (i 0 : Fin 3) (i 1 : Fin 2048) (i 2 : Fin 5120) := by
        funext a
        match a with
        | ⟨0, _⟩ => rfl
        | ⟨1, _⟩ => rfl
        | ⟨2, _⟩ => rfl
      rw [h4]
      rw [hx] at hi ⊢
      have ht := Cert.On_products_total_in_range.Spec.mask_total _ _ _ (i 0) (i 1) (i 2) hi
      refine (Cert.ReferenceIdeal.Spec.outT_apply _ _ _ (i 0) (i 1) (i 2)).trans ?_
      refine Eq.trans ?_ (Cert.KernelIdeal.Value.out_value m ρ c (i 0) (i 1) (i 2) ht).symm
      exact congrArg (fun e : EReal => e * _ * _)
        (Cert.Spec.sum_products (Cert.KernelIdeal.Value.row (Cert.KernelIdeal.Value.argX m c) (i 0) (i 1))
          (Cert.KernelIdeal.Value.col (Cert.KernelIdeal.Value.argW m c) (i 2)))
    · have hx : i = ix3 (i 0 : Fin 3) (i 1 : Fin 2048) (i 2 : Fin 13824) := by
        funext a
        match a with
        | ⟨0, _⟩ => rfl
        | ⟨1, _⟩ => rfl
        | ⟨2, _⟩ => rfl
      rw [h5, hx]
      exact (Cert.ReferenceIdeal.Spec.wordT_apply _ (i 0) (i 1) (i 2)).trans (Cert.KernelIdeal.Value.codes_value m ρ c (i 0) (i 1) (i 2)).symm
    · have hx : i = ix3 (i 0 : Fin 3) (i 1 : Fin 2048) (i 2 : Fin 1) := by
        funext a
        match a with
        | ⟨0, _⟩ => rfl
        | ⟨1, _⟩ => rfl
        | ⟨2, _⟩ => rfl
      rw [h6, hx]
      exact (Cert.ReferenceIdeal.Spec.scaleT_apply _ (i 0) (i 1) (i 2)).trans (Cert.KernelIdeal.Value.scales_value m ρ c (i 0) (i 1) (i 2)).symm

/-- All the claims. -/
theorem claim : Cert.Claim :=
  ⟨Cert.Kernel.Gen.facts, Cert.KernelIdeal.Gen.facts, Cert.ReferenceIdeal.Gen.facts, Cert.On_products_total_in_range.Gen.facts,
    fun m ρ _ => Cert.Kernel.Gen.frame m ρ, fun m ρ _ => Cert.KernelIdeal.Gen.frame m ρ, frame_reference, trivial, value⟩

end Cert.Proof

end
